-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S32768x1024 : Shape := ⟨2, ![32768, 1024]⟩
abbrev S2x512x2048 : Shape := ⟨3, ![2, 512, 2048]⟩
abbrev S4x512x1024 : Shape := ⟨3, ![4, 512, 1024]⟩
abbrev S2x512x1024 : Shape := ⟨3, ![2, 512, 1024]⟩
abbrev S2 : Shape := ⟨1, ![2]⟩
abbrev S32 : Shape := ⟨1, ![32]⟩
abbrev S11 : Shape := ⟨1, ![11]⟩
abbrev S14 : Shape := ⟨1, ![14]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x512x1024 : Shape := ⟨3, ![1, 512, 1024]⟩
abbrev S512x1024 : Shape := ⟨2, ![512, 1024]⟩
abbrev S384x1024 : Shape := ⟨2, ![384, 1024]⟩

abbrev nBuf : Space → Nat
  | .hbm => 2
  | .vmem => 3
  | .smem => 0
  | _ => 0

abbrev bufTy : (tb : Table) → Fin (tcTables nBuf tb) → BufTy
  | .hbm, ⟨0, _⟩ => ⟨S16384x2048, .f32⟩
  | .hbm, ⟨1, _⟩ => ⟨S32768x1024, .bf16⟩
  | .local _ .vmem, ⟨0, _⟩ => ⟨S2x512x2048, .f32⟩
  | .local _ .vmem, ⟨1, _⟩ => ⟨S4x512x1024, .bf16⟩
  | .local _ .vmem, ⟨2, _⟩ => ⟨S2x512x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  (ofTc nBuf bufTy 1 112 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_31 : BitVec 32 := 8#32
  let v42 : BitVec 32 := Scalar.muli v9 c8_i32_31
  let v43 : BitVec 32 := Scalar.addi c0_i32_32 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v44 : BitVec 32 := Scalar.muli v5 c4_i32_33
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v46 : BitVec 32 := Scalar.muli v8 c1_i32_34
  let v47 : BitVec 32 := Scalar.addi v45 v46
  v47.toNat
def k0_dev2 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v48 : BitVec 32 := Scalar.muli v2 c8_i32_36
  let v49 : BitVec 32 := Scalar.addi c0_i32_37 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_38 : BitVec 32 := 4#32
  let v50 : BitVec 32 := Scalar.muli v18 c4_i32_38
  let v51 : BitVec 32 := Scalar.addi v49 v50
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_39 : BitVec 32 := 1#32
  let v52 : BitVec 32 := Scalar.muli v26 c1_i32_39
  let v53 : BitVec 32 := Scalar.addi v51 v52
  v53.toNat
def k0_dev3 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v54 : BitVec 32 := Scalar.muli v2 c8_i32_41
  let v55 : BitVec 32 := Scalar.addi c0_i32_42 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_43 : BitVec 32 := 4#32
  let v56 : BitVec 32 := Scalar.muli v32 c4_i32_43
  let v57 : BitVec 32 := Scalar.addi v55 v56
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_44 : BitVec 32 := 1#32
  let v58 : BitVec 32 := Scalar.muli v40 c1_i32_44
  let v59 : BitVec 32 := Scalar.addi v57 v58
  v59.toNat
def k0_off1 (d0 : Dev nD) (c0_i32_47 : BitVec 32) : Fin 2 → Nat :=
  let c3_i32_46 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v60 : BitVec 32 := Scalar.muli c3_i32_46 v12
  let v61 : BitVec 32 := Scalar.addi v60 c0_i32_47
  let c512_i32 : BitVec 32 := 512#32
  let v62 : BitVec 32 := Scalar.muli v61 c512_i32
  let c0_i32_52 : BitVec 32 := 0#32
  ![v62.toNat, 0]
def k0_off2 (d0 : Dev nD) : Fin 3 → Nat :=
  let c0 : Index := 0#32
  let c0_69 : Index := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c1024_i32 : BitVec 32 := 1024#32
  let v84 : BitVec 32 := Scalar.muli v9 c1024_i32
  let v85 : Index := Scalar.indexCast v84
  ![0, 0, v85.toNat]
def k0_off3 (d0 : Dev nD) (c0_i32_74 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v92 : BitVec 32 := Scalar.muli v2 c16384_i32
  let c3_i32_73 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v93 : BitVec 32 := Scalar.muli c3_i32_73 v12
  let v94 : BitVec 32 := Scalar.addi v93 c0_i32_74
  let c512_i32_75 : BitVec 32 := 512#32
  let v95 : BitVec 32 := Scalar.muli v94 c512_i32_75
  let v96 : BitVec 32 := Scalar.addi v92 v95
  let c0_i32_83 : BitVec 32 := 0#32
  ![v96.toNat, 0]
def k0_dev4 (d0 : Dev nD) : Nat :=
  let c0_i32_80 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_79 : BitVec 32 := 8#32
  let v97 : BitVec 32 := Scalar.muli v9 c8_i32_79
  let v98 : BitVec 32 := Scalar.addi c0_i32_80 v97
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v99 : BitVec 32 := Scalar.muli v5 c4_i32_81
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v101 : BitVec 32 := Scalar.muli v8 c1_i32_82
  let v102 : BitVec 32 := Scalar.addi v100 v101
  v102.toNat
def k0_off4 (d0 : Dev nD) : Fin 3 → Nat :=
  let c0_87 : Index := 0#32
  let c0_88 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_86 : BitVec 32 := 1024#32
  let v110 : BitVec 32 := Scalar.muli v2 c1024_i32_86
  let v111 : Index := Scalar.indexCast v110
  ![0, 0, v111.toNat]
def k0_off5 (d0 : Dev nD) : Fin 3 → Nat :=
  let c1 : Index := 1#32
  let c0_118 : Index := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c1024_i32_117 : BitVec 32 := 1024#32
  let v144 : BitVec 32 := Scalar.muli v9 c1024_i32_117
  let v145 : Index := Scalar.indexCast v144
  ![1, 0, v145.toNat]
def k0_dev5 (d0 : Dev nD) : Nat :=
  let c0_i32_130 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_129 : BitVec 32 := 8#32
  let v157 : BitVec 32 := Scalar.muli v9 c8_i32_129
  let v158 : BitVec 32 := Scalar.addi c0_i32_130 v157
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_131 : BitVec 32 := 4#32
  let v159 : BitVec 32 := Scalar.muli v5 c4_i32_131
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v161 : BitVec 32 := Scalar.muli v8 c1_i32_132
  let v162 : BitVec 32 := Scalar.addi v160 v161
  v162.toNat
def k0_off6 (d0 : Dev nD) : Fin 3 → Nat :=
  let c1_137 : Index := 1#32
  let c0_138 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_136 : BitVec 32 := 1024#32
  let v170 : BitVec 32 := Scalar.muli v2 c1024_i32_136
  let v171 : Index := Scalar.indexCast v170
  ![1, 0, v171.toNat]
def k0_dev6 (d0 : Dev nD) : Nat :=
  let c0_i32_177 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_176 : BitVec 32 := 8#32
  let v214 : BitVec 32 := Scalar.muli v9 c8_i32_176
  let v215 : BitVec 32 := Scalar.addi c0_i32_177 v214
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_178 : BitVec 32 := 4#32
  let v216 : BitVec 32 := Scalar.muli v5 c4_i32_178
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v218 : BitVec 32 := Scalar.muli v8 c1_i32_179
  let v219 : BitVec 32 := Scalar.addi v217 v218
  v219.toNat
def k0_off7 (d0 : Dev nD) (c0_i32_517 : BitVec 32) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c16384_i32_515 : BitVec 32 := 16384#32
  let v709 : BitVec 32 := Scalar.muli v9 c16384_i32_515
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1536_i32_516 : BitVec 32 := 1536#32
  let v710 : BitVec 32 := Scalar.muli v12 c1536_i32_516
  let v711 : BitVec 32 := Scalar.addi v709 v710
  let v712 : BitVec 32 := Scalar.addi v711 c0_i32_517
  let c0_i32_524 : BitVec 32 := 0#32
  ![v712.toNat, 0]
def k0_dev7 (d0 : Dev nD) : Nat :=
  let c0_i32_521 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_520 : BitVec 32 := 8#32
  let v713 : BitVec 32 := Scalar.muli v2 c8_i32_520
  let v714 : BitVec 32 := Scalar.addi c0_i32_521 v713
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_522 : BitVec 32 := 4#32
  let v715 : BitVec 32 := Scalar.muli v18 c4_i32_522
  let v716 : BitVec 32 := Scalar.addi v714 v715
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_523 : BitVec 32 := 1#32
  let v717 : BitVec 32 := Scalar.muli v26 c1_i32_523
  let v718 : BitVec 32 := Scalar.addi v716 v717
  v718.toNat
def k0_dev8 (d0 : Dev nD) : Nat :=
  let c0_i32_542 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_541 : BitVec 32 := 8#32
  let v740 : BitVec 32 := Scalar.muli v2 c8_i32_541
  let v741 : BitVec 32 := Scalar.addi c0_i32_542 v740
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_543 : BitVec 32 := 4#32
  let v742 : BitVec 32 := Scalar.muli v18 c4_i32_543
  let v743 : BitVec 32 := Scalar.addi v741 v742
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_544 : BitVec 32 := 1#32
  let v744 : BitVec 32 := Scalar.muli v26 c1_i32_544
  let v745 : BitVec 32 := Scalar.addi v743 v744
  v745.toNat
def k0_dev9 (d0 : Dev nD) : Nat :=
  let c0_i32_563 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_562 : BitVec 32 := 8#32
  let v767 : BitVec 32 := Scalar.muli v2 c8_i32_562
  let v768 : BitVec 32 := Scalar.addi c0_i32_563 v767
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_564 : BitVec 32 := 4#32
  let v769 : BitVec 32 := Scalar.muli v32 c4_i32_564
  let v770 : BitVec 32 := Scalar.addi v768 v769
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_565 : BitVec 32 := 1#32
  let v771 : BitVec 32 := Scalar.muli v40 c1_i32_565
  let v772 : BitVec 32 := Scalar.addi v770 v771
  v772.toNat
def k0_dev10 (d0 : Dev nD) : Nat :=
  let c0_i32_574 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_573 : BitVec 32 := 8#32
  let v783 : BitVec 32 := Scalar.muli v2 c8_i32_573
  let v784 : BitVec 32 := Scalar.addi c0_i32_574 v783
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_575 : BitVec 32 := 4#32
  let v785 : BitVec 32 := Scalar.muli v32 c4_i32_575
  let v786 : BitVec 32 := Scalar.addi v784 v785
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_576 : BitVec 32 := 1#32
  let v787 : BitVec 32 := Scalar.muli v40 c1_i32_576
  let v788 : BitVec 32 := Scalar.addi v786 v787
  v788.toNat
def k0_off8 (d0 : Dev nD) (c12288_i32_596 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32_595 : BitVec 32 := 16384#32
  let v813 : BitVec 32 := Scalar.muli v2 c16384_i32_595
  let v814 : BitVec 32 := Scalar.addi v813 c12288_i32_596
  let c0_i32_604 : BitVec 32 := 0#32
  ![v814.toNat, 0]
def k0_dev11 (d0 : Dev nD) : Nat :=
  let c0_i32_601 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_600 : BitVec 32 := 8#32
  let v815 : BitVec 32 := Scalar.muli v9 c8_i32_600
  let v816 : BitVec 32 := Scalar.addi c0_i32_601 v815
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_602 : BitVec 32 := 4#32
  let v817 : BitVec 32 := Scalar.muli v5 c4_i32_602
  let v818 : BitVec 32 := Scalar.addi v816 v817
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_603 : BitVec 32 := 1#32
  let v819 : BitVec 32 := Scalar.muli v8 c1_i32_603
  let v820 : BitVec 32 := Scalar.addi v818 v819
  v820.toNat
def k0_dev12 (d0 : Dev nD) : Nat :=
  let c0_i32_655 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_654 : BitVec 32 := 8#32
  let v873 : BitVec 32 := Scalar.muli v9 c8_i32_654
  let v874 : BitVec 32 := Scalar.addi c0_i32_655 v873
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_656 : BitVec 32 := 4#32
  let v875 : BitVec 32 := Scalar.muli v5 c4_i32_656
  let v876 : BitVec 32 := Scalar.addi v874 v875
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_657 : BitVec 32 := 1#32
  let v877 : BitVec 32 := Scalar.muli v8 c1_i32_657
  let v878 : BitVec 32 := Scalar.addi v876 v877
  v878.toNat
def k0_dev13 (d0 : Dev nD) : Nat :=
  let c0_i32_709 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_708 : BitVec 32 := 8#32
  let v931 : BitVec 32 := Scalar.muli v9 c8_i32_708
  let v932 : BitVec 32 := Scalar.addi c0_i32_709 v931
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_710 : BitVec 32 := 4#32
  let v933 : BitVec 32 := Scalar.muli v5 c4_i32_710
  let v934 : BitVec 32 := Scalar.addi v932 v933
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_711 : BitVec 32 := 1#32
  let v935 : BitVec 32 := Scalar.muli v8 c1_i32_711
  let v936 : BitVec 32 := Scalar.addi v934 v935
  v936.toNat
def k0_dev14 (d0 : Dev nD) : Nat :=
  let c0_i32_763 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_762 : BitVec 32 := 8#32
  let v989 : BitVec 32 := Scalar.muli v9 c8_i32_762
  let v990 : BitVec 32 := Scalar.addi c0_i32_763 v989
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_764 : BitVec 32 := 4#32
  let v991 : BitVec 32 := Scalar.muli v5 c4_i32_764
  let v992 : BitVec 32 := Scalar.addi v990 v991
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_765 : BitVec 32 := 1#32
  let v993 : BitVec 32 := Scalar.muli v8 c1_i32_765
  let v994 : BitVec 32 := Scalar.addi v992 v993
  v994.toNat
def k0_off9 (d0 : Dev nD) (c0_i32_204 : BitVec 32) (c0_i32_212 : BitVec 32) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c16384_i32_211 : BitVec 32 := 16384#32
  let v262 : BitVec 32 := Scalar.muli v9 c16384_i32_211
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_203 : BitVec 32 := 1#32
  let v250 : BitVec 32 := Scalar.subi v12 c1_i32_203
  let v251 : BitVec 32 := Scalar.subi v250 c0_i32_204
  let c8_i32_205 : BitVec 32 := 8#32
  let c0_i32_206 : BitVec 32 := 0#32
  let v252 : BitVec 1 := Scalar.cmpi .eq c8_i32_205 c0_i32_206
  let c1_i32_207 : BitVec 32 := 1#32
  let v253 : BitVec 32 := Scalar.select v252 c1_i32_207 c8_i32_205
  let v254 : BitVec 32 := Scalar.remsi v251 v253
  let c0_i32_209 : BitVec 32 := 0#32
  let v256 : BitVec 1 := Scalar.cmpi .slt v254 c0_i32_209
  let c0_i32_210 : BitVec 32 := 0#32
  let v257 : BitVec 1 := Scalar.cmpi .slt v253 c0_i32_210
  let v258 : BitVec 1 := Scalar.xori v256 v257
  let c0_i32_208 : BitVec 32 := 0#32
  let v255 : BitVec 1 := Scalar.cmpi .ne v254 c0_i32_208
  let v259 : BitVec 1 := Scalar.andi v258 v255
  let v260 : BitVec 32 := Scalar.addi v254 v253
  let v261 : BitVec 32 := Scalar.select v259 v260 v254
  let c1536_i32 : BitVec 32 := 1536#32
  let v263 : BitVec 32 := Scalar.muli v261 c1536_i32
  let v264 : BitVec 32 := Scalar.addi v262 v263
  let v265 : BitVec 32 := Scalar.addi v264 c0_i32_212
  let c0_i32_793 : BitVec 32 := 0#32
  ![v265.toNat, 0]
def k0_off10 (d0 : Dev nD) (c1_i32_795 : BitVec 32) (c0_i32_804 : BitVec 32) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c16384_i32_802 : BitVec 32 := 16384#32
  let v1043 : BitVec 32 := Scalar.muli v9 c16384_i32_802
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v1032 : BitVec 32 := Scalar.subi v12 c1_i32_795
  let c8_i32_796 : BitVec 32 := 8#32
  let c0_i32_797 : BitVec 32 := 0#32
  let v1033 : BitVec 1 := Scalar.cmpi .eq c8_i32_796 c0_i32_797
  let c1_i32_798 : BitVec 32 := 1#32
  let v1034 : BitVec 32 := Scalar.select v1033 c1_i32_798 c8_i32_796
  let v1035 : BitVec 32 := Scalar.remsi v1032 v1034
  let c0_i32_800 : BitVec 32 := 0#32
  let v1037 : BitVec 1 := Scalar.cmpi .slt v1035 c0_i32_800
  let c0_i32_801 : BitVec 32 := 0#32
  let v1038 : BitVec 1 := Scalar.cmpi .slt v1034 c0_i32_801
  let v1039 : BitVec 1 := Scalar.xori v1037 v1038
  let c0_i32_799 : BitVec 32 := 0#32
  let v1036 : BitVec 1 := Scalar.cmpi .ne v1035 c0_i32_799
  let v1040 : BitVec 1 := Scalar.andi v1039 v1036
  let v1041 : BitVec 32 := Scalar.addi v1035 v1034
  let v1042 : BitVec 32 := Scalar.select v1040 v1041 v1035
  let c1536_i32_803 : BitVec 32 := 1536#32
  let v1044 : BitVec 32 := Scalar.muli v1042 c1536_i32_803
  let v1045 : BitVec 32 := Scalar.addi v1043 v1044
  let v1046 : BitVec 32 := Scalar.addi v1045 c0_i32_804
  let c0_i32_811 : BitVec 32 := 0#32
  ![v1046.toNat, 0]
def k0_dev15 (d0 : Dev nD) : Nat :=
  let c0_i32_808 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_807 : BitVec 32 := 8#32
  let v1047 : BitVec 32 := Scalar.muli v2 c8_i32_807
  let v1048 : BitVec 32 := Scalar.addi c0_i32_808 v1047
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_809 : BitVec 32 := 4#32
  let v1049 : BitVec 32 := Scalar.muli v18 c4_i32_809
  let v1050 : BitVec 32 := Scalar.addi v1048 v1049
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_810 : BitVec 32 := 1#32
  let v1051 : BitVec 32 := Scalar.muli v26 c1_i32_810
  let v1052 : BitVec 32 := Scalar.addi v1050 v1051
  v1052.toNat
def k0_off11 (d0 : Dev nD) (c0_i32_214 : BitVec 32) (c768_i32 : BitVec 32) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c16384_i32_221 : BitVec 32 := 16384#32
  let v278 : BitVec 32 := Scalar.muli v9 c16384_i32_221
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_213 : BitVec 32 := 1#32
  let v266 : BitVec 32 := Scalar.addi v12 c1_i32_213
  let v267 : BitVec 32 := Scalar.addi v266 c0_i32_214
  let c8_i32_215 : BitVec 32 := 8#32
  let c0_i32_216 : BitVec 32 := 0#32
  let v268 : BitVec 1 := Scalar.cmpi .eq c8_i32_215 c0_i32_216
  let c1_i32_217 : BitVec 32 := 1#32
  let v269 : BitVec 32 := Scalar.select v268 c1_i32_217 c8_i32_215
  let v270 : BitVec 32 := Scalar.remsi v267 v269
  let c0_i32_219 : BitVec 32 := 0#32
  let v272 : BitVec 1 := Scalar.cmpi .slt v270 c0_i32_219
  let c0_i32_220 : BitVec 32 := 0#32
  let v273 : BitVec 1 := Scalar.cmpi .slt v269 c0_i32_220
  let v274 : BitVec 1 := Scalar.xori v272 v273
  let c0_i32_218 : BitVec 32 := 0#32
  let v271 : BitVec 1 := Scalar.cmpi .ne v270 c0_i32_218
  let v275 : BitVec 1 := Scalar.andi v274 v271
  let v276 : BitVec 32 := Scalar.addi v270 v269
  let v277 : BitVec 32 := Scalar.select v275 v276 v270
  let c1536_i32_222 : BitVec 32 := 1536#32
  let v279 : BitVec 32 := Scalar.muli v277 c1536_i32_222
  let v280 : BitVec 32 := Scalar.addi v278 v279
  let v281 : BitVec 32 := Scalar.addi v280 c768_i32
  let c0_i32_819 : BitVec 32 := 0#32
  ![v281.toNat, 0]
def k0_off12 (d0 : Dev nD) (c1_i32_821 : BitVec 32) (c768_i32_830 : BitVec 32) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c16384_i32_828 : BitVec 32 := 16384#32
  let v1080 : BitVec 32 := Scalar.muli v9 c16384_i32_828
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v1069 : BitVec 32 := Scalar.addi v12 c1_i32_821
  let c8_i32_822 : BitVec 32 := 8#32
  let c0_i32_823 : BitVec 32 := 0#32
  let v1070 : BitVec 1 := Scalar.cmpi .eq c8_i32_822 c0_i32_823
  let c1_i32_824 : BitVec 32 := 1#32
  let v1071 : BitVec 32 := Scalar.select v1070 c1_i32_824 c8_i32_822
  let v1072 : BitVec 32 := Scalar.remsi v1069 v1071
  let c0_i32_826 : BitVec 32 := 0#32
  let v1074 : BitVec 1 := Scalar.cmpi .slt v1072 c0_i32_826
  let c0_i32_827 : BitVec 32 := 0#32
  let v1075 : BitVec 1 := Scalar.cmpi .slt v1071 c0_i32_827
  let v1076 : BitVec 1 := Scalar.xori v1074 v1075
  let c0_i32_825 : BitVec 32 := 0#32
  let v1073 : BitVec 1 := Scalar.cmpi .ne v1072 c0_i32_825
  let v1077 : BitVec 1 := Scalar.andi v1076 v1073
  let v1078 : BitVec 32 := Scalar.addi v1072 v1071
  let v1079 : BitVec 32 := Scalar.select v1077 v1078 v1072
  let c1536_i32_829 : BitVec 32 := 1536#32
  let v1081 : BitVec 32 := Scalar.muli v1079 c1536_i32_829
  let v1082 : BitVec 32 := Scalar.addi v1080 v1081
  let v1083 : BitVec 32 := Scalar.addi v1082 c768_i32_830
  let c0_i32_837 : BitVec 32 := 0#32
  ![v1083.toNat, 0]
def k0_dev16 (d0 : Dev nD) : Nat :=
  let c0_i32_834 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_833 : BitVec 32 := 8#32
  let v1084 : BitVec 32 := Scalar.muli v2 c8_i32_833
  let v1085 : BitVec 32 := Scalar.addi c0_i32_834 v1084
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_835 : BitVec 32 := 4#32
  let v1086 : BitVec 32 := Scalar.muli v32 c4_i32_835
  let v1087 : BitVec 32 := Scalar.addi v1085 v1086
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_836 : BitVec 32 := 1#32
  let v1088 : BitVec 32 := Scalar.muli v40 c1_i32_836
  let v1089 : BitVec 32 := Scalar.addi v1087 v1088
  v1089.toNat
def k0_dev17 (d0 : Dev nD) : Nat :=
  let c0_i32_860 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_859 : BitVec 32 := 8#32
  let v1121 : BitVec 32 := Scalar.muli v2 c8_i32_859
  let v1122 : BitVec 32 := Scalar.addi c0_i32_860 v1121
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_861 : BitVec 32 := 4#32
  let v1123 : BitVec 32 := Scalar.muli v18 c4_i32_861
  let v1124 : BitVec 32 := Scalar.addi v1122 v1123
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_862 : BitVec 32 := 1#32
  let v1125 : BitVec 32 := Scalar.muli v26 c1_i32_862
  let v1126 : BitVec 32 := Scalar.addi v1124 v1125
  v1126.toNat
def k0_dev18 (d0 : Dev nD) : Nat :=
  let c0_i32_886 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_885 : BitVec 32 := 8#32
  let v1158 : BitVec 32 := Scalar.muli v2 c8_i32_885
  let v1159 : BitVec 32 := Scalar.addi c0_i32_886 v1158
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_887 : BitVec 32 := 4#32
  let v1160 : BitVec 32 := Scalar.muli v32 c4_i32_887
  let v1161 : BitVec 32 := Scalar.addi v1159 v1160
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_888 : BitVec 32 := 1#32
  let v1162 : BitVec 32 := Scalar.muli v40 c1_i32_888
  let v1163 : BitVec 32 := Scalar.addi v1161 v1162
  v1163.toNat
def k0_dev19 (d0 : Dev nD) : Nat :=
  let c0_i32_921 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_920 : BitVec 32 := 8#32
  let v1195 : BitVec 32 := Scalar.muli v9 c8_i32_920
  let v1196 : BitVec 32 := Scalar.addi c0_i32_921 v1195
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_922 : BitVec 32 := 4#32
  let v1197 : BitVec 32 := Scalar.muli v5 c4_i32_922
  let v1198 : BitVec 32 := Scalar.addi v1196 v1197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_923 : BitVec 32 := 1#32
  let v1199 : BitVec 32 := Scalar.muli v8 c1_i32_923
  let v1200 : BitVec 32 := Scalar.addi v1198 v1199
  v1200.toNat
def k0_dev20 (d0 : Dev nD) : Nat :=
  let c0_i32_975 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_974 : BitVec 32 := 8#32
  let v1253 : BitVec 32 := Scalar.muli v9 c8_i32_974
  let v1254 : BitVec 32 := Scalar.addi c0_i32_975 v1253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1255 : BitVec 32 := Scalar.muli v5 c4_i32_976
  let v1256 : BitVec 32 := Scalar.addi v1254 v1255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1257 : BitVec 32 := Scalar.muli v8 c1_i32_977
  let v1258 : BitVec 32 := Scalar.addi v1256 v1257
  v1258.toNat
def k0_dev21 (d0 : Dev nD) : Nat :=
  let c0_i32_1028 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1027 : BitVec 32 := 8#32
  let v1311 : BitVec 32 := Scalar.muli v9 c8_i32_1027
  let v1312 : BitVec 32 := Scalar.addi c0_i32_1028 v1311
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1029 : BitVec 32 := 4#32
  let v1313 : BitVec 32 := Scalar.muli v5 c4_i32_1029
  let v1314 : BitVec 32 := Scalar.addi v1312 v1313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1030 : BitVec 32 := 1#32
  let v1315 : BitVec 32 := Scalar.muli v8 c1_i32_1030
  let v1316 : BitVec 32 := Scalar.addi v1314 v1315
  v1316.toNat
def k0_off13 (d0 : Dev nD) (c3_i32_1059 : BitVec 32) : Fin 2 → Nat :=
  let c3_i32_1058 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v1349 : BitVec 32 := Scalar.muli c3_i32_1058 v12
  let v1350 : BitVec 32 := Scalar.addi v1349 c3_i32_1059
  let c24_i32 : BitVec 32 := 24#32
  let c0_i32_1060 : BitVec 32 := 0#32
  let v1351 : BitVec 1 := Scalar.cmpi .eq c24_i32 c0_i32_1060
  let c1_i32_1061 : BitVec 32 := 1#32
  let v1352 : BitVec 32 := Scalar.select v1351 c1_i32_1061 c24_i32
  let v1353 : BitVec 32 := Scalar.remsi v1350 v1352
  let c0_i32_1063 : BitVec 32 := 0#32
  let v1355 : BitVec 1 := Scalar.cmpi .slt v1353 c0_i32_1063
  let c0_i32_1064 : BitVec 32 := 0#32
  let v1356 : BitVec 1 := Scalar.cmpi .slt v1352 c0_i32_1064
  let v1357 : BitVec 1 := Scalar.xori v1355 v1356
  let c0_i32_1062 : BitVec 32 := 0#32
  let v1354 : BitVec 1 := Scalar.cmpi .ne v1353 c0_i32_1062
  let v1358 : BitVec 1 := Scalar.andi v1357 v1354
  let v1359 : BitVec 32 := Scalar.addi v1353 v1352
  let v1360 : BitVec 32 := Scalar.select v1358 v1359 v1353
  let c512_i32_1065 : BitVec 32 := 512#32
  let v1361 : BitVec 32 := Scalar.muli v1360 c512_i32_1065
  let c0_i32_1070 : BitVec 32 := 0#32
  ![v1361.toNat, 0]
def k0_dev22 (d0 : Dev nD) : Nat :=
  let c0_i32_1089 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1088 : BitVec 32 := 8#32
  let v1382 : BitVec 32 := Scalar.muli v9 c8_i32_1088
  let v1383 : BitVec 32 := Scalar.addi c0_i32_1089 v1382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1090 : BitVec 32 := 4#32
  let v1384 : BitVec 32 := Scalar.muli v5 c4_i32_1090
  let v1385 : BitVec 32 := Scalar.addi v1383 v1384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1091 : BitVec 32 := 1#32
  let v1386 : BitVec 32 := Scalar.muli v8 c1_i32_1091
  let v1387 : BitVec 32 := Scalar.addi v1385 v1386
  v1387.toNat
def k0_dev23 (d0 : Dev nD) : Nat :=
  let c0_i32_1134 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1133 : BitVec 32 := 8#32
  let v1440 : BitVec 32 := Scalar.muli v2 c8_i32_1133
  let v1441 : BitVec 32 := Scalar.addi c0_i32_1134 v1440
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_1135 : BitVec 32 := 4#32
  let v1442 : BitVec 32 := Scalar.muli v18 c4_i32_1135
  let v1443 : BitVec 32 := Scalar.addi v1441 v1442
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_1136 : BitVec 32 := 1#32
  let v1444 : BitVec 32 := Scalar.muli v26 c1_i32_1136
  let v1445 : BitVec 32 := Scalar.addi v1443 v1444
  v1445.toNat
def k0_dev24 (d0 : Dev nD) : Nat :=
  let c0_i32_1160 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1159 : BitVec 32 := 8#32
  let v1477 : BitVec 32 := Scalar.muli v2 c8_i32_1159
  let v1478 : BitVec 32 := Scalar.addi c0_i32_1160 v1477
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_1161 : BitVec 32 := 4#32
  let v1479 : BitVec 32 := Scalar.muli v32 c4_i32_1161
  let v1480 : BitVec 32 := Scalar.addi v1478 v1479
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_1162 : BitVec 32 := 1#32
  let v1481 : BitVec 32 := Scalar.muli v40 c1_i32_1162
  let v1482 : BitVec 32 := Scalar.addi v1480 v1481
  v1482.toNat
def k0_dev25 (d0 : Dev nD) : Nat :=
  let c0_i32_1186 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1185 : BitVec 32 := 8#32
  let v1514 : BitVec 32 := Scalar.muli v2 c8_i32_1185
  let v1515 : BitVec 32 := Scalar.addi c0_i32_1186 v1514
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_1187 : BitVec 32 := 4#32
  let v1516 : BitVec 32 := Scalar.muli v18 c4_i32_1187
  let v1517 : BitVec 32 := Scalar.addi v1515 v1516
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_1188 : BitVec 32 := 1#32
  let v1518 : BitVec 32 := Scalar.muli v26 c1_i32_1188
  let v1519 : BitVec 32 := Scalar.addi v1517 v1518
  v1519.toNat
def k0_dev26 (d0 : Dev nD) : Nat :=
  let c0_i32_1212 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1211 : BitVec 32 := 8#32
  let v1551 : BitVec 32 := Scalar.muli v2 c8_i32_1211
  let v1552 : BitVec 32 := Scalar.addi c0_i32_1212 v1551
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_1213 : BitVec 32 := 4#32
  let v1553 : BitVec 32 := Scalar.muli v32 c4_i32_1213
  let v1554 : BitVec 32 := Scalar.addi v1552 v1553
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_1214 : BitVec 32 := 1#32
  let v1555 : BitVec 32 := Scalar.muli v40 c1_i32_1214
  let v1556 : BitVec 32 := Scalar.addi v1554 v1555
  v1556.toNat
def k0_off14 (d0 : Dev nD) (c3_i32_1258 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32_1256 : BitVec 32 := 16384#32
  let v1612 : BitVec 32 := Scalar.muli v2 c16384_i32_1256
  let c3_i32_1257 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v1613 : BitVec 32 := Scalar.muli c3_i32_1257 v12
  let v1614 : BitVec 32 := Scalar.addi v1613 c3_i32_1258
  let c24_i32_1259 : BitVec 32 := 24#32
  let c0_i32_1260 : BitVec 32 := 0#32
  let v1615 : BitVec 1 := Scalar.cmpi .eq c24_i32_1259 c0_i32_1260
  let c1_i32_1261 : BitVec 32 := 1#32
  let v1616 : BitVec 32 := Scalar.select v1615 c1_i32_1261 c24_i32_1259
  let v1617 : BitVec 32 := Scalar.remsi v1614 v1616
  let c0_i32_1263 : BitVec 32 := 0#32
  let v1619 : BitVec 1 := Scalar.cmpi .slt v1617 c0_i32_1263
  let c0_i32_1264 : BitVec 32 := 0#32
  let v1620 : BitVec 1 := Scalar.cmpi .slt v1616 c0_i32_1264
  let v1621 : BitVec 1 := Scalar.xori v1619 v1620
  let c0_i32_1262 : BitVec 32 := 0#32
  let v1618 : BitVec 1 := Scalar.cmpi .ne v1617 c0_i32_1262
  let v1622 : BitVec 1 := Scalar.andi v1621 v1618
  let v1623 : BitVec 32 := Scalar.addi v1617 v1616
  let v1624 : BitVec 32 := Scalar.select v1622 v1623 v1617
  let c512_i32_1265 : BitVec 32 := 512#32
  let v1625 : BitVec 32 := Scalar.muli v1624 c512_i32_1265
  let v1626 : BitVec 32 := Scalar.addi v1612 v1625
  let c0_i32_1267 : BitVec 32 := 0#32
  ![v1626.toNat, 0]
def k0_dev27 (d0 : Dev nD) : Nat :=
  let c0_i32_1450 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1449 : BitVec 32 := 8#32
  let v1864 : BitVec 32 := Scalar.muli v2 c8_i32_1449
  let v1865 : BitVec 32 := Scalar.addi c0_i32_1450 v1864
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_1451 : BitVec 32 := 4#32
  let v1866 : BitVec 32 := Scalar.muli v18 c4_i32_1451
  let v1867 : BitVec 32 := Scalar.addi v1865 v1866
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_1452 : BitVec 32 := 1#32
  let v1868 : BitVec 32 := Scalar.muli v26 c1_i32_1452
  let v1869 : BitVec 32 := Scalar.addi v1867 v1868
  v1869.toNat
def k0_dev28 (d0 : Dev nD) : Nat :=
  let c0_i32_1476 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1475 : BitVec 32 := 8#32
  let v1901 : BitVec 32 := Scalar.muli v2 c8_i32_1475
  let v1902 : BitVec 32 := Scalar.addi c0_i32_1476 v1901
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_1477 : BitVec 32 := 4#32
  let v1903 : BitVec 32 := Scalar.muli v32 c4_i32_1477
  let v1904 : BitVec 32 := Scalar.addi v1902 v1903
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_1478 : BitVec 32 := 1#32
  let v1905 : BitVec 32 := Scalar.muli v40 c1_i32_1478
  let v1906 : BitVec 32 := Scalar.addi v1904 v1905
  v1906.toNat
def k0_dev29 (d0 : Dev nD) : Nat :=
  let c0_i32_1502 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1501 : BitVec 32 := 8#32
  let v1938 : BitVec 32 := Scalar.muli v2 c8_i32_1501
  let v1939 : BitVec 32 := Scalar.addi c0_i32_1502 v1938
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_1503 : BitVec 32 := 4#32
  let v1940 : BitVec 32 := Scalar.muli v18 c4_i32_1503
  let v1941 : BitVec 32 := Scalar.addi v1939 v1940
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_1504 : BitVec 32 := 1#32
  let v1942 : BitVec 32 := Scalar.muli v26 c1_i32_1504
  let v1943 : BitVec 32 := Scalar.addi v1941 v1942
  v1943.toNat
def k0_dev30 (d0 : Dev nD) : Nat :=
  let c0_i32_1528 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1527 : BitVec 32 := 8#32
  let v1975 : BitVec 32 := Scalar.muli v2 c8_i32_1527
  let v1976 : BitVec 32 := Scalar.addi c0_i32_1528 v1975
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_1529 : BitVec 32 := 4#32
  let v1977 : BitVec 32 := Scalar.muli v32 c4_i32_1529
  let v1978 : BitVec 32 := Scalar.addi v1976 v1977
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_1530 : BitVec 32 := 1#32
  let v1979 : BitVec 32 := Scalar.muli v40 c1_i32_1530
  let v1980 : BitVec 32 := Scalar.addi v1978 v1979
  v1980.toNat
def k0_dev31 (d0 : Dev nD) : Nat :=
  let c0_i32_1766 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1765 : BitVec 32 := 8#32
  let v2288 : BitVec 32 := Scalar.muli v2 c8_i32_1765
  let v2289 : BitVec 32 := Scalar.addi c0_i32_1766 v2288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_1767 : BitVec 32 := 4#32
  let v2290 : BitVec 32 := Scalar.muli v18 c4_i32_1767
  let v2291 : BitVec 32 := Scalar.addi v2289 v2290
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_1768 : BitVec 32 := 1#32
  let v2292 : BitVec 32 := Scalar.muli v26 c1_i32_1768
  let v2293 : BitVec 32 := Scalar.addi v2291 v2292
  v2293.toNat
def k0_dev32 (d0 : Dev nD) : Nat :=
  let c0_i32_1792 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1791 : BitVec 32 := 8#32
  let v2325 : BitVec 32 := Scalar.muli v2 c8_i32_1791
  let v2326 : BitVec 32 := Scalar.addi c0_i32_1792 v2325
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_1793 : BitVec 32 := 4#32
  let v2327 : BitVec 32 := Scalar.muli v32 c4_i32_1793
  let v2328 : BitVec 32 := Scalar.addi v2326 v2327
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_1794 : BitVec 32 := 1#32
  let v2329 : BitVec 32 := Scalar.muli v40 c1_i32_1794
  let v2330 : BitVec 32 := Scalar.addi v2328 v2329
  v2330.toNat
def k0_dev33 (d0 : Dev nD) : Nat :=
  let c0_i32_1818 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1817 : BitVec 32 := 8#32
  let v2362 : BitVec 32 := Scalar.muli v2 c8_i32_1817
  let v2363 : BitVec 32 := Scalar.addi c0_i32_1818 v2362
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_1819 : BitVec 32 := 4#32
  let v2364 : BitVec 32 := Scalar.muli v18 c4_i32_1819
  let v2365 : BitVec 32 := Scalar.addi v2363 v2364
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_1820 : BitVec 32 := 1#32
  let v2366 : BitVec 32 := Scalar.muli v26 c1_i32_1820
  let v2367 : BitVec 32 := Scalar.addi v2365 v2366
  v2367.toNat
def k0_dev34 (d0 : Dev nD) : Nat :=
  let c0_i32_1844 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1843 : BitVec 32 := 8#32
  let v2399 : BitVec 32 := Scalar.muli v2 c8_i32_1843
  let v2400 : BitVec 32 := Scalar.addi c0_i32_1844 v2399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_1845 : BitVec 32 := 4#32
  let v2401 : BitVec 32 := Scalar.muli v32 c4_i32_1845
  let v2402 : BitVec 32 := Scalar.addi v2400 v2401
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_1846 : BitVec 32 := 1#32
  let v2403 : BitVec 32 := Scalar.muli v40 c1_i32_1846
  let v2404 : BitVec 32 := Scalar.addi v2402 v2403
  v2404.toNat
def k0_dev35 (d0 : Dev nD) : Nat :=
  let c0_i32_2082 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2081 : BitVec 32 := 8#32
  let v2712 : BitVec 32 := Scalar.muli v2 c8_i32_2081
  let v2713 : BitVec 32 := Scalar.addi c0_i32_2082 v2712
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_2083 : BitVec 32 := 4#32
  let v2714 : BitVec 32 := Scalar.muli v18 c4_i32_2083
  let v2715 : BitVec 32 := Scalar.addi v2713 v2714
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_2084 : BitVec 32 := 1#32
  let v2716 : BitVec 32 := Scalar.muli v26 c1_i32_2084
  let v2717 : BitVec 32 := Scalar.addi v2715 v2716
  v2717.toNat
def k0_dev36 (d0 : Dev nD) : Nat :=
  let c0_i32_2108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2107 : BitVec 32 := 8#32
  let v2749 : BitVec 32 := Scalar.muli v2 c8_i32_2107
  let v2750 : BitVec 32 := Scalar.addi c0_i32_2108 v2749
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_2109 : BitVec 32 := 4#32
  let v2751 : BitVec 32 := Scalar.muli v32 c4_i32_2109
  let v2752 : BitVec 32 := Scalar.addi v2750 v2751
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_2110 : BitVec 32 := 1#32
  let v2753 : BitVec 32 := Scalar.muli v40 c1_i32_2110
  let v2754 : BitVec 32 := Scalar.addi v2752 v2753
  v2754.toNat
def k0_dev37 (d0 : Dev nD) : Nat :=
  let c0_i32_2134 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2133 : BitVec 32 := 8#32
  let v2786 : BitVec 32 := Scalar.muli v2 c8_i32_2133
  let v2787 : BitVec 32 := Scalar.addi c0_i32_2134 v2786
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_2135 : BitVec 32 := 4#32
  let v2788 : BitVec 32 := Scalar.muli v18 c4_i32_2135
  let v2789 : BitVec 32 := Scalar.addi v2787 v2788
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_2136 : BitVec 32 := 1#32
  let v2790 : BitVec 32 := Scalar.muli v26 c1_i32_2136
  let v2791 : BitVec 32 := Scalar.addi v2789 v2790
  v2791.toNat
def k0_dev38 (d0 : Dev nD) : Nat :=
  let c0_i32_2160 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2159 : BitVec 32 := 8#32
  let v2823 : BitVec 32 := Scalar.muli v2 c8_i32_2159
  let v2824 : BitVec 32 := Scalar.addi c0_i32_2160 v2823
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_2161 : BitVec 32 := 4#32
  let v2825 : BitVec 32 := Scalar.muli v32 c4_i32_2161
  let v2826 : BitVec 32 := Scalar.addi v2824 v2825
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_2162 : BitVec 32 := 1#32
  let v2827 : BitVec 32 := Scalar.muli v40 c1_i32_2162
  let v2828 : BitVec 32 := Scalar.addi v2826 v2827
  v2828.toNat
def k0_dev39 (d0 : Dev nD) : Nat :=
  let c0_i32_2399 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2398 : BitVec 32 := 8#32
  let v3136 : BitVec 32 := Scalar.muli v2 c8_i32_2398
  let v3137 : BitVec 32 := Scalar.addi c0_i32_2399 v3136
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_2400 : BitVec 32 := 4#32
  let v3138 : BitVec 32 := Scalar.muli v18 c4_i32_2400
  let v3139 : BitVec 32 := Scalar.addi v3137 v3138
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_2401 : BitVec 32 := 1#32
  let v3140 : BitVec 32 := Scalar.muli v26 c1_i32_2401
  let v3141 : BitVec 32 := Scalar.addi v3139 v3140
  v3141.toNat
def k0_dev40 (d0 : Dev nD) : Nat :=
  let c0_i32_2425 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2424 : BitVec 32 := 8#32
  let v3173 : BitVec 32 := Scalar.muli v2 c8_i32_2424
  let v3174 : BitVec 32 := Scalar.addi c0_i32_2425 v3173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_2426 : BitVec 32 := 4#32
  let v3175 : BitVec 32 := Scalar.muli v32 c4_i32_2426
  let v3176 : BitVec 32 := Scalar.addi v3174 v3175
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_2427 : BitVec 32 := 1#32
  let v3177 : BitVec 32 := Scalar.muli v40 c1_i32_2427
  let v3178 : BitVec 32 := Scalar.addi v3176 v3177
  v3178.toNat
def k0_dev41 (d0 : Dev nD) : Nat :=
  let c0_i32_2451 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2450 : BitVec 32 := 8#32
  let v3210 : BitVec 32 := Scalar.muli v2 c8_i32_2450
  let v3211 : BitVec 32 := Scalar.addi c0_i32_2451 v3210
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v13 : BitVec 1 := Scalar.cmpi .eq v5 c0_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let c0_i32_4 : BitVec 32 := 0#32
  let c1_i32_5 : BitVec 32 := 1#32
  let v15 : BitVec 32 := Scalar.select v14 c0_i32_4 c1_i32_5
  let c0_i32_6 : BitVec 32 := 0#32
  let v16 : BitVec 1 := Scalar.cmpi .sgt v8 c0_i32_6
  let c1_i32_7 : BitVec 32 := 1#32
  let c0_i32_8 : BitVec 32 := 0#32
  let v17 : BitVec 32 := Scalar.select v16 c1_i32_7 c0_i32_8
  let v18 : BitVec 32 := Scalar.select v13 v15 v17
  let c4_i32_2452 : BitVec 32 := 4#32
  let v3212 : BitVec 32 := Scalar.muli v18 c4_i32_2452
  let v3213 : BitVec 32 := Scalar.addi v3211 v3212
  let c0_i32_9 : BitVec 32 := 0#32
  let v19 : BitVec 1 := Scalar.cmpi .eq v5 c0_i32_9
  let c3_i32_10 : BitVec 32 := 3#32
  let v20 : BitVec 1 := Scalar.cmpi .slt v8 c3_i32_10
  let c1_i32_11 : BitVec 32 := 1#32
  let v21 : BitVec 32 := Scalar.addi v8 c1_i32_11
  let c3_i32_12 : BitVec 32 := 3#32
  let v22 : BitVec 32 := Scalar.select v20 v21 c3_i32_12
  let c0_i32_13 : BitVec 32 := 0#32
  let v23 : BitVec 1 := Scalar.cmpi .sgt v8 c0_i32_13
  let c1_i32_14 : BitVec 32 := 1#32
  let v24 : BitVec 32 := Scalar.subi v8 c1_i32_14
  let c0_i32_15 : BitVec 32 := 0#32
  let v25 : BitVec 32 := Scalar.select v23 v24 c0_i32_15
  let v26 : BitVec 32 := Scalar.select v19 v22 v25
  let c1_i32_2453 : BitVec 32 := 1#32
  let v3214 : BitVec 32 := Scalar.muli v26 c1_i32_2453
  let v3215 : BitVec 32 := Scalar.addi v3213 v3214
  v3215.toNat
def k0_dev42 (d0 : Dev nD) : Nat :=
  let c0_i32_2477 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2476 : BitVec 32 := 8#32
  let v3247 : BitVec 32 := Scalar.muli v2 c8_i32_2476
  let v3248 : BitVec 32 := Scalar.addi c0_i32_2477 v3247
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_16 : BitVec 32 := 0#32
  let v27 : BitVec 1 := Scalar.cmpi .eq v5 c0_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v28 : BitVec 1 := Scalar.cmpi .sgt v8 c0_i32_17
  let c0_i32_18 : BitVec 32 := 0#32
  let c1_i32_19 : BitVec 32 := 1#32
  let v29 : BitVec 32 := Scalar.select v28 c0_i32_18 c1_i32_19
  let c3_i32_20 : BitVec 32 := 3#32
  let v30 : BitVec 1 := Scalar.cmpi .slt v8 c3_i32_20
  let c1_i32_21 : BitVec 32 := 1#32
  let c0_i32_22 : BitVec 32 := 0#32
  let v31 : BitVec 32 := Scalar.select v30 c1_i32_21 c0_i32_22
  let v32 : BitVec 32 := Scalar.select v27 v29 v31
  let c4_i32_2478 : BitVec 32 := 4#32
  let v3249 : BitVec 32 := Scalar.muli v32 c4_i32_2478
  let v3250 : BitVec 32 := Scalar.addi v3248 v3249
  let c0_i32_23 : BitVec 32 := 0#32
  let v33 : BitVec 1 := Scalar.cmpi .eq v5 c0_i32_23
  let c0_i32_24 : BitVec 32 := 0#32
  let v34 : BitVec 1 := Scalar.cmpi .sgt v8 c0_i32_24
  let c1_i32_25 : BitVec 32 := 1#32
  let v35 : BitVec 32 := Scalar.subi v8 c1_i32_25
  let c0_i32_26 : BitVec 32 := 0#32
  let v36 : BitVec 32 := Scalar.select v34 v35 c0_i32_26
  let c3_i32_27 : BitVec 32 := 3#32
  let v37 : BitVec 1 := Scalar.cmpi .slt v8 c3_i32_27
  let c1_i32_28 : BitVec 32 := 1#32
  let v38 : BitVec 32 := Scalar.addi v8 c1_i32_28
  let c3_i32_29 : BitVec 32 := 3#32
  let v39 : BitVec 32 := Scalar.select v37 v38 c3_i32_29
  let v40 : BitVec 32 := Scalar.select v33 v36 v39
  let c1_i32_2479 : BitVec 32 := 1#32
  let v3251 : BitVec 32 := Scalar.muli v40 c1_i32_2479
  let v3252 : BitVec 32 := Scalar.addi v3250 v3251
  v3252.toNat
-- ==== ReferenceIdeal.lean ====
abbrev S32768x2048 : Shape := ⟨2, ![32768, 2048]⟩

abbrev nBuf : Space → Nat
  | .hbm => 2
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Geo.lean ====
/-
The mesh of the kernel: sixteen devices on axes x (2), y (2), z (4). The eight devices of one x form a ring in y and z;
a device's partner is the device at the same place of the other ring. Rows of the result are counted from 0 to 32767.
Everything here is arithmetic: no program is mentioned.
-/
module

public import Idealize.ShloMosaic.Lib.Pipeline

@[expose] public section

set_option backward.proofsInPublic true

namespace Cert.Geo

/-- Which of the two rings device `c` lies on (its coordinate on x). -/
def xc (c : Fin 16) : ℕ := c.val / 8
/-- The place of device `c` on its ring: z going up on y = 0, coming back on y = 1. -/
def rp (c : Fin 16) : ℕ := if c.val / 4 % 2 = 0 then c.val % 4 else 7 - c.val % 4
/-- The device at place `r` of ring `x`. -/
def devAt (x r : ℕ) : Fin 16 :=
  ⟨8 * (x % 2) + (if r % 8 < 4 then r % 8 else 11 - r % 8), by split <;> omega⟩
/-- The partner on the other ring. -/
def par (c : Fin 16) : Fin 16 := devAt (1 - xc c) (rp c)
/-- The next device of the ring. -/
def nxt (c : Fin 16) : Fin 16 := devAt (xc c) (rp c + 1)
/-- The device before it. -/
def prv (c : Fin 16) : Fin 16 := devAt (xc c) (rp c + 7)

theorem xc_lt (c : Fin 16) : xc c < 2 := by revert c; decide +kernel
theorem rp_lt (c : Fin 16) : rp c < 8 := by revert c; decide +kernel
theorem devAt_self (c : Fin 16) : devAt (xc c) (rp c) = c := by revert c; decide +kernel
theorem par_par (c : Fin 16) : par (par c) = c := by revert c; decide +kernel
theorem nxt_prv (c : Fin 16) : nxt (prv c) = c := by revert c; decide +kernel
theorem prv_nxt (c : Fin 16) : prv (nxt c) = c := by revert c; decide +kernel
theorem xc_par (c : Fin 16) : xc (par c) = 1 - xc c := by revert c; decide +kernel
theorem rp_par (c : Fin 16) : rp (par c) = rp c := by revert c; decide +kernel
theorem xc_nxt (c : Fin 16) : xc (nxt c) = xc c := by revert c; decide +kernel
theorem xc_prv (c : Fin 16) : xc (prv c) = xc c := by revert c; decide +kernel
theorem rp_nxt (c : Fin 16) : rp (nxt c) = (rp c + 1) % 8 := by revert c; decide +kernel
theorem rp_prv (c : Fin 16) : rp (prv c) = (rp c + 7) % 8 := by revert c; decide +kernel
theorem xc_devAt (x r : ℕ) : xc (devAt x r) = x % 2 := by
  simp only [xc, devAt]; split <;> omega

/-- The first row (within a device's own block of 16384) of the chunk of 512 rows processed in step `i`. -/
def row0 (c : Fin 16) (i : ℕ) : ℕ :=
  if i < 3 then 1536 * rp c + 512 * i
  else if i < 11 then 12288 + 512 * (i - 3)
  else (3 * rp c + (i - 8)) % 24 * 512

/-- The first row of the piece device `c` sends to the next device in its `k`-th such transfer. -/
def cwRow (c : Fin 16) (k : ℕ) : ℕ := 16384 * (1 - xc c) + 1536 * ((rp c + 8 - k / 2) % 8) + 384 * (k % 2)
/-- The first row of the piece device `c` sends to the device before it in its `k`-th such transfer. -/
def ccwRow (c : Fin 16) (k : ℕ) : ℕ := 16384 * (1 - xc c) + 1536 * ((rp c + k / 2) % 8) + 768 + 384 * (k % 2)

/-- The device whose argument a row of the result comes from: the device itself for its own half; of the other half the last
    4096 rows come from the partner, the rows before them from the device of the other ring that the row's part belongs to. -/
def srcDev (c : Fin 16) (row : ℕ) : Fin 16 :=
  if row / 16384 = xc c then c
  else if 12288 ≤ row % 16384 then par c
  else devAt (1 - xc c) (row % 16384 / 1536)

theorem row0_lt (c : Fin 16) (i : ℕ) (hi : i < 32) : row0 c i + 512 ≤ 16384 := by
  have := rp_lt c; unfold row0; split_ifs <;> omega
theorem row0_par (c : Fin 16) (i : ℕ) : row0 (par c) i = row0 c i := by simp only [row0, rp_par]
/-- A piece received from the device before is the piece sent on two transfers later. -/
theorem cwRow_nxt (c : Fin 16) (k : ℕ) (hk : k < 14) : cwRow (nxt c) (k + 2) = cwRow c k := by
  have := rp_lt c; simp only [cwRow, xc_nxt, rp_nxt]; omega
/-- The same the other way round the ring. -/
theorem ccwRow_prv (c : Fin 16) (k : ℕ) (hk : k < 14) : ccwRow (prv c) (k + 2) = ccwRow c k := by
  have := rp_lt c; simp only [ccwRow, xc_prv, rp_prv]; omega

/-! ## The ways the rows are cut -/

/-- The cut the transfers leave behind, as (first row, length): thirty-two chunks of the own half, the eight shared chunks of
    the other half, then the pieces of the two directions. -/
def cutF (c : Fin 16) : List (ℕ × ℕ) :=
  (List.range 32).map (fun i => (16384 * xc c + row0 c i, 512)) ++
  (List.range' 3 8).map (fun i => (16384 * (1 - xc c) + row0 c i, 512)) ++
  (List.range 16).map (fun k => (cwRow c k, 384)) ++
  (List.range 16).map (fun k => (ccwRow c k, 384))

/-- The cut by what lands: the own chunks, the eleven chunks the partner sends, the fourteen pieces from each neighbour. -/
def cutI (c : Fin 16) : List (ℕ × ℕ) :=
  (List.range 32).map (fun i => (16384 * xc c + row0 c i, 512)) ++
  (List.range 11).map (fun i => (16384 * (1 - xc c) + row0 c i, 512)) ++
  (List.range 14).map (fun k => (cwRow (prv c) k, 384)) ++
  (List.range 14).map (fun k => (ccwRow (nxt c) k, 384))

/-- The thirty-two chunks of a device's argument. -/
def cutX (c : Fin 16) : List (ℕ × ℕ) := (List.range 32).map (fun i => (row0 c i, 512))

/-- Whether no two intervals of a cut meet. -/
def apartB : List (ℕ × ℕ) → Bool
  | [] => true
  | p :: l => l.all (fun q => Nat.ble (p.1 + p.2) q.1 || Nat.ble (q.1 + q.2) p.1) && apartB l
/-- Whether every 128 rows below `128 * N` lie in one interval. -/
def fillsB (N : ℕ) (l : List (ℕ × ℕ)) : Bool :=
  (List.range N).all fun u => l.any fun p => Nat.ble p.1 (128 * u) && Nat.ble (128 * u + 128) (p.1 + p.2)

/-- The intervals of a cut do not meet. -/
def Apart (l : List (ℕ × ℕ)) : Prop := l.Pairwise fun p q => p.1 + p.2 ≤ q.1 ∨ q.1 + q.2 ≤ p.1
/-- The intervals of a cut reach every row below `N`. -/
def Fills (N : ℕ) (l : List (ℕ × ℕ)) : Prop := ∀ r < N, ∃ p ∈ l, p.1 ≤ r ∧ r < p.1 + p.2

theorem apart_of : ∀ l, apartB l = true → Apart l
  | [], _ => List.Pairwise.nil
  | p :: l, h => by
    simp only [apartB, Bool.and_eq_true, List.all_eq_true, Bool.or_eq_true, Nat.ble_eq] at h
    exact List.Pairwise.cons h.1 (apart_of l h.2)

theorem fills_of (N : ℕ) (l) (h : fillsB N l = true) : Fills (128 * N) l := by
  intro r hr
  simp only [fillsB, List.all_eq_true, List.any_eq_true, Bool.and_eq_true, Nat.ble_eq, List.mem_range] at h
  obtain ⟨p, hp, h1, h2⟩ := h (r / 128) (by omega)
  exact ⟨p, hp, by omega, by omega⟩

theorem cutF_apart (c : Fin 16) : Apart (cutF c) := apart_of _ (by revert c; decide +kernel)
theorem cutF_fills (c : Fin 16) : Fills 32768 (cutF c) := fills_of 256 _ (by revert c; decide +kernel)
theorem cutI_apart (c : Fin 16) : Apart (cutI c) := apart_of _ (by revert c; decide +kernel)
theorem cutI_fills (c : Fin 16) : Fills 32768 (cutI c) := fills_of 256 _ (by revert c; decide +kernel)
theorem cutX_apart (c : Fin 16) : Apart (cutX c) := apart_of _ (by revert c; decide +kernel)
theorem cutX_fills (c : Fin 16) : Fills 16384 (cutX c) := fills_of 128 _ (by revert c; decide +kernel)

end Cert.Geo
-- ==== Proof.Plan.lean ====
/-
The protocol as data. A device's state is a list of named resources (`Atom`) and the list of what it has still to signal;
each operation of the kernel takes some resources and gives others. This module runs the whole kernel on those names and
checks that every operation finds what it needs; what the names stand for is said elsewhere. No program is mentioned here.

Semaphores are numbered: 0, 1 the loads; 2–33 the stores; 34–44 and 45–55 the sending and receiving ends of the transfers to
the partner; 56–69, 70–83 those of the transfers to the next device; 84–97, 98–111 to the device before; 112 the barrier.
-/
module

public import proofs.«01_k».proof.Proof.Geo

@[expose] public section

set_option backward.proofsInPublic true

namespace Cert.Plan

/-- The name of a resource: a kind and two numbers. -/
structure Atom where
  kind : ℕ
  idx : ℕ
  aux : ℕ

namespace Atom
/-- Chunk `i` of the argument. -/
abbrev X (i : ℕ) : Atom := ⟨0, i, 0⟩
/-- Slot `j` of the load buffer, whatever it holds. -/
abbrev VF (j : ℕ) : Atom := ⟨1, j, 0⟩
/-- The load buffer's slot for chunk `i`, holding chunk `i`. -/
abbrev VFc (i : ℕ) : Atom := ⟨2, i, 0⟩
/-- Slot `j` of the buffer of halves to send. -/
abbrev VS (j : ℕ) : Atom := ⟨3, j, 0⟩
/-- The send buffer's slot for chunk `i`, holding the partner's half of it. -/
abbrev VSc (i : ℕ) : Atom := ⟨4, i, 0⟩
/-- Slot `j` of the buffer of halves to keep. -/
abbrev VK (j : ℕ) : Atom := ⟨5, j, 0⟩
/-- The keep buffer's slot for chunk `i`, holding the own half of it. -/
abbrev VKc (i : ℕ) : Atom := ⟨6, i, 0⟩
/-- The rows of the result for the own chunk `i`, whatever they hold. -/
abbrev OWN (i : ℕ) : Atom := ⟨7, i, 0⟩
/-- The same rows, filled. -/
abbrev OWNf (i : ℕ) : Atom := ⟨8, i, 0⟩
/-- The partner's rows chunk `i` is sent to. -/
abbrev LX (i : ℕ) : Atom := ⟨9, i, 0⟩
/-- The next device's rows the `k`-th piece is sent to. -/
abbrev LCW (k : ℕ) : Atom := ⟨10, k, 0⟩
/-- The rows of the device before that the `k`-th piece is sent to. -/
abbrev LCCW (k : ℕ) : Atom := ⟨11, k, 0⟩
/-- Rows `lo` to `hi` of the part of the other half that the partner fills, filled. -/
abbrev W (lo hi : ℕ) : Atom := ⟨12, lo, hi⟩
/-- The rows the partner's chunk `i` came to, filled. -/
abbrev XF (i : ℕ) : Atom := ⟨13, i, 0⟩
/-- The `k`-th piece for the next device, filled. -/
abbrev PCW (k : ℕ) : Atom := ⟨14, k, 0⟩
/-- The `k`-th piece for the device before, filled. -/
abbrev PCCW (k : ℕ) : Atom := ⟨15, k, 0⟩
/-- What the barrier's signal number `d` hands over. -/
abbrev GIVE (d : ℕ) : Atom := ⟨16, d, 0⟩
/-- The right to pay duty `a` of semaphore `s` at the device it is paid to. -/
abbrev tok (s a : ℕ) : Atom := ⟨17, s, a⟩
/-- The own semaphore `s` stands at the start of round `r`. -/
abbrev pos (s r : ℕ) : Atom := ⟨18, s, r⟩
/-- A full round of the own semaphore `s` will come. -/
abbrev cred (s : ℕ) : Atom := ⟨19, s, 0⟩
/-- The own semaphore `s` has come to round `r`. -/
abbrev rch (s r : ℕ) : Atom := ⟨20, s, r⟩

/-- Whether two names are the same. -/
def beq (a b : Atom) : Bool := Nat.beq a.kind b.kind && (Nat.beq a.idx b.idx && Nat.beq a.aux b.aux)

theorem eq_of_beq {a b : Atom} (h : a.beq b = true) : a = b := by
  obtain ⟨x, y, z⟩ := a
  obtain ⟨x', y', z'⟩ := b
  simp only [beq, Bool.and_eq_true, Nat.beq_eq] at h
  obtain ⟨rfl, rfl, rfl⟩ := h
  rfl
end Atom

open Atom

/-- Take one name out of a list. -/
def take1 (a : Atom) : List Atom → Option (List Atom)
  | [] => none
  | b :: l => bif a.beq b then some l else (take1 a l).map (b :: ·)
/-- Take all names of one list out of another. -/
def takeAll : List Atom → List Atom → Option (List Atom)
  | [], l => some l
  | a :: al, l => (take1 a l).bind (takeAll al)

/-- The operations of the kernel, and three regroupings of rows that no operation performs. -/
inductive Op
  /-- the barrier signal number `d` -/
  | sig (d : Fin 3)
  /-- the wait of the barrier -/
  | barw
  /-- start loading chunk `i` -/
  | ld (i : Fin 32)
  | ldw (i : Fin 32)
  /-- convert the partner's half of chunk `i` -/
  | castS (i : Fin 11)
  /-- send it -/
  | xs (i : Fin 11)
  | xsw (i : Fin 11)
  | xrw (i : Fin 11)
  /-- convert the own half of chunk `i` -/
  | castK (i : Fin 32)
  /-- store it -/
  | st (i : Fin 32)
  | stw (i : Fin 32)
  /-- send the `k`-th piece to the next device -/
  | cw (k : Fin 14)
  | cwsw (k : Fin 14)
  | cwrw (k : Fin 14)
  /-- send the `k`-th piece to the device before -/
  | ccw (k : Fin 14)
  | ccwsw (k : Fin 14)
  | ccwrw (k : Fin 14)
  /-- regroup the rows that have come -/
  | cut (j : Fin 3)

/-- What duty `a` of semaphore `s` hands to the device whose semaphore it is. -/
def pay (s a : ℕ) : List Atom :=
  if s < 2 then [VFc (2 * a + s), X (2 * a + s)]
  else if s < 34 then [OWNf (s - 2), VK ((s - 2) % 2)]
  else if s < 45 then [VS ((s - 34) % 4)]
  else if s < 56 then [XF (s - 45)]
  else if s < 70 then [PCW (s - 56)]
  else if s < 84 then [PCW (s - 70 + 2)]
  else if s < 98 then [PCCW (s - 84)]
  else if s < 112 then [PCCW (s - 98 + 2)]
  else if a = 0 then (List.range 11).map LX
  else if a = 1 then (List.range 14).map LCCW
  else (List.range 14).map LCW

/-- The order in which a device waits and signals: a device waits for a semaphore only while all it has still to signal is
    above it. The semaphores a device itself fills are at the bottom. -/
def lev (s : ℕ) : ℕ :=
  if s < 45 then 0
  else if s < 48 then 10 + (s - 45)
  else if s < 52 then 30 + (s - 45)
  else if s < 56 then 150 + (s - 45)
  else if s < 70 then 0
  else if s < 72 then 20 + (s - 70)
  else if s < 84 then 100 * ((s - 70) / 2) + 10 * ((s - 70) % 2)
  else if s < 98 then 0
  else if s < 100 then 22 + (s - 98)
  else if s < 112 then 100 * ((s - 98) / 2) + 10 * ((s - 98) % 2) + 5
  else 1

/-- What an operation takes. -/
def Op.pre : Op → List Atom
  | .sig d => [tok 112 d.val, GIVE d.val]
  | .barw => [pos 112 0, cred 112]
  | .ld i => [X i.val, VF (i.val % 2), tok (i.val % 2) (i.val / 2), rch (i.val % 2) (i.val / 2)]
  | .ldw i => [pos (i.val % 2) (i.val / 2), cred (i.val % 2)]
  | .castS i => [VFc i.val, VS (i.val % 4)]
  | .xs i => [VSc i.val, LX i.val, tok (34 + i.val) 0, tok (45 + i.val) 0]
  | .xsw i => [pos (34 + i.val) 0, cred (34 + i.val)]
  | .xrw i => [pos (45 + i.val) 0, cred (45 + i.val)]
  | .castK i => [VFc i.val, VK (i.val % 2)]
  | .st i => [VKc i.val, OWN i.val, tok (2 + i.val) 0]
  | .stw i => [pos (2 + i.val) 0, cred (2 + i.val)]
  | .cw k => [PCW k.val, LCW k.val, tok (56 + k.val) 0, tok (70 + k.val) 0]
  | .cwsw k => [pos (56 + k.val) 0, cred (56 + k.val)]
  | .cwrw k => [pos (70 + k.val) 0, cred (70 + k.val)]
  | .ccw k => [PCCW k.val, LCCW k.val, tok (84 + k.val) 0, tok (98 + k.val) 0]
  | .ccwsw k => [pos (84 + k.val) 0, cred (84 + k.val)]
  | .ccwrw k => [pos (98 + k.val) 0, cred (98 + k.val)]
  | .cut j => if j.val = 0 then [XF 0] else if j.val = 1 then [XF 1, W 384 512] else [XF 2, W 768 1024]

/-- The semaphore an operation waits for, and its round. -/
def Op.wait : Op → Option (ℕ × ℕ)
  | .barw => some (112, 0)
  | .ldw i => some (i.val % 2, i.val / 2)
  | .xsw i => some (34 + i.val, 0)
  | .xrw i => some (45 + i.val, 0)
  | .stw i => some (2 + i.val, 0)
  | .cwsw k => some (56 + k.val, 0)
  | .cwrw k => some (70 + k.val, 0)
  | .ccwsw k => some (84 + k.val, 0)
  | .ccwrw k => some (98 + k.val, 0)
  | _ => none

/-- What all duties of a round of semaphore `s` hand over. -/
def payAll (s r : ℕ) : List Atom :=
  if s < 2 then pay s r else if s < 112 then pay s 0 else pay s 0 ++ (pay s 1 ++ pay s 2)

/-- What an operation gives. -/
def Op.post (o : Op) : List Atom :=
  match o.wait with
  | some (s, r) => pos s (r + 1) :: rch s (r + 1) :: payAll s r
  | none =>
    match o with
    | .ld i => [cred (i.val % 2)]
    | .castS i => [VFc i.val, VSc i.val]
    | .xs i => [cred (34 + i.val)]
    | .castK i => [VF (i.val % 2), VKc i.val]
    | .st i => [cred (2 + i.val)]
    | .cw k => [cred (56 + k.val)]
    | .ccw k => [cred (84 + k.val)]
    | .cut j => if j.val = 0 then [PCW 0, W 384 512] else if j.val = 1 then [PCW 1, W 768 1024] else [PCCW 0, PCCW 1]
    | _ => []

/-- What an operation signals at another device: the semaphore and the duty. -/
def Op.due : Op → Option (ℕ × ℕ)
  | .sig d => some (112, d.val)
  | .xs i => some (45 + i.val, 0)
  | .cw k => some (70 + k.val, 0)
  | .ccw k => some (98 + k.val, 0)
  | _ => none

/-- A device's state: the resources it holds, and what it has still to signal. -/
abbrev St := List Atom × List (ℕ × ℕ)

/-- Whether a wait is allowed while the listed signals are still to come. -/
def waitOk (w : Option (ℕ × ℕ)) (dues : List (ℕ × ℕ)) : Bool :=
  match w with
  | none => true
  | some (s, _) => dues.all fun d => Nat.blt (lev s) (lev d.1)

/-- What is left to signal after an operation. -/
def popDue (d : Option (ℕ × ℕ)) (dues : List (ℕ × ℕ)) : Option (List (ℕ × ℕ)) :=
  match d with
  | none => some dues
  | some p => match dues with
    | [] => none
    | q :: rest => bif Nat.beq p.1 q.1 && Nat.beq p.2 q.2 then some rest else none

/-- One operation on the state. -/
def step (o : Op) (st : St) : Option St :=
  (takeAll o.pre st.1).bind fun al => (popDue o.due st.2).bind fun ds =>
    bif waitOk o.wait st.2 then some (o.post ++ al, ds) else none

/-- A list of operations on the state. -/
def exec : List Op → St → Option St
  | [], st => some st
  | o :: os, st => (step o st).bind (exec os)

theorem popDue_some {p : ℕ × ℕ} {dues ds : List (ℕ × ℕ)} (h : popDue (some p) dues = some ds) : dues = p :: ds := by
  cases dues with
  | nil => simp [popDue] at h
  | cons q rest =>
    obtain ⟨a, b⟩ := p
    obtain ⟨a', b'⟩ := q
    simp only [popDue] at h
    cases hb : (Nat.beq a a' && Nat.beq b b') with
    | false => simp [hb] at h
    | true =>
      simp only [hb, cond_true, Option.some.injEq] at h
      simp only [Bool.and_eq_true, Nat.beq_eq] at hb
      obtain ⟨rfl, rfl⟩ := hb
      rw [h]

theorem step_eq {o : Op} {st st' : St} (h : step o st = some st') :
    ∃ al ds, takeAll o.pre st.1 = some al ∧ popDue o.due st.2 = some ds ∧ waitOk o.wait st.2 = true ∧ st' = (o.post ++ al, ds) := by
  unfold step at h
  obtain ⟨al, hal, h⟩ := Option.bind_eq_some_iff.1 h
  obtain ⟨ds, hds, h⟩ := Option.bind_eq_some_iff.1 h
  cases hw : waitOk o.wait st.2 with
  | false => simp [hw] at h
  | true => simp only [hw, cond_true, Option.some.injEq] at h; exact ⟨al, ds, hal, hds, rfl, h.symm⟩

/-! ## The kernel's order -/

/-- Processing chunk `i`. -/
def proc (i : ℕ) : List Op :=
  [Op.ldw (Fin.ofNat 32 i)] ++ (bif Nat.blt (i + 1) 32 then [Op.ld (Fin.ofNat 32 (i + 1))] else []) ++
  (bif Nat.blt i 11 then (bif Nat.ble 4 i then [Op.xsw (Fin.ofNat 11 (i - 4))] else []) ++ [Op.castS (Fin.ofNat 11 i), Op.xs (Fin.ofNat 11 i)] else []) ++
  (bif Nat.ble 2 i then [Op.stw (Fin.ofNat 32 (i - 2))] else []) ++
  [Op.castK (Fin.ofNat 32 i), Op.st (Fin.ofNat 32 i)]

/-- The sends of number `k` of both directions, each after the piece it passes on has come. -/
def relay (k : ℕ) : List Op :=
  [Op.cwrw (Fin.ofNat 14 (k - 2)), Op.cw (Fin.ofNat 14 k), Op.ccwrw (Fin.ofNat 14 (k - 2)), Op.ccw (Fin.ofNat 14 k)]

/-- Everything a device does, in order. -/
def plan : List Op :=
  [.sig 0, .sig 1, .sig 2, .barw, .ld 0] ++ (List.range 3).flatMap proc ++
  [.xrw 0, .cut 0, .cw 0, .xrw 1, .cut 1, .cw 1, .xrw 2, .cut 2, .ccw 0, .ccw 1] ++
  (List.range' 3 4).flatMap proc ++
  (List.range' 1 5).flatMap (fun s => relay (2 * s) ++ relay (2 * s + 1) ++ (List.range' (3 + 4 * s) 4).flatMap proc) ++
  relay 12 ++ relay 13 ++ (List.range' 27 5).flatMap proc ++
  (List.range' 3 8).map (fun i => Op.xrw (Fin.ofNat 11 i)) ++
  [.cwrw 12, .ccwrw 12, .cwrw 13, .ccwrw 13, .stw 30, .stw 31, .xsw 7, .xsw 8, .xsw 9, .xsw 10] ++
  (List.range 14).map (fun k => Op.cwsw (Fin.ofNat 14 k)) ++ (List.range 14).map (fun k => Op.ccwsw (Fin.ofNat 14 k))

/-- Everything a device signals at another, in order. -/
def dues : List (ℕ × ℕ) := plan.filterMap Op.due

/-- The rights to pay that a device starts with. -/
def toks : List Atom :=
  (List.range 16).map (tok 0) ++ (List.range 16).map (tok 1) ++ (List.range' 2 110).map (tok · 0) ++ [tok 112 0, tok 112 1, tok 112 2]
/-- The semaphores that others fill. -/
def fed : List ℕ := List.range' 45 11 ++ List.range' 70 14 ++ List.range' 98 15
/-- What a device starts with. -/
def initA : List Atom :=
  (List.range 32).map X ++ [VF 0, VF 1, VS 0, VS 1, VS 2, VS 3, VK 0, VK 1] ++ (List.range 32).map OWN ++
  [GIVE 0, GIVE 1, GIVE 2] ++ toks ++ (List.range 113).map (pos · 0) ++ fed.map cred ++ [rch 0 0, rch 1 0]
/-- The resources a device ends with. -/
def finA : List Atom :=
  (List.range 32).map X ++ [VF 0, VF 1, VS 0, VS 1, VS 2, VS 3, VK 0, VK 1] ++
  ((List.range 32).map OWNf ++ (List.range' 3 8).map XF ++ (List.range 16).map PCW ++ (List.range 16).map PCCW) ++
  [pos 0 16, pos 1 16] ++ (List.range' 2 111).map (pos · 1)

/-- The whole run and what is taken from its end. -/
def outcome : Option (List Atom) :=
  (exec plan (initA, dues)).bind fun st => match st.2 with | [] => takeAll finA st.1 | _ => none

theorem outcome_isSome : outcome.isSome = true := by decide +kernel

/-- Every operation of the run finds what it needs, nothing stays to be signalled, and the end holds `finA`. -/
theorem run_plan : ∃ al rest, exec plan (initA, dues) = some (al, []) ∧ takeAll finA al = some rest := by
  obtain ⟨rest, h⟩ := Option.isSome_iff_exists.1 outcome_isSome
  unfold outcome at h
  obtain ⟨⟨al, ds⟩, h1, h2⟩ := Option.bind_eq_some_iff.1 h
  cases ds with
  | nil => exact ⟨al, rest, h1, h2⟩
  | cons d ds => simp at h2

end Cert.Plan
-- ==== Proof.Src.lean ====
/-
Where rows of the result come from, as facts about numbers.
-/
module

public import proofs.«01_k».proof.Proof.Geo

@[expose] public section

set_option backward.proofsInPublic true

namespace Cert.Geo

/-- A row of the own half comes from the device itself. -/
theorem srcDev_own (c : Fin 16) (r : ℕ) (h : r < 16384) : srcDev c (16384 * xc c + r) = c := by
  unfold srcDev; rw [if_pos (by omega)]

/-- The rows a device sends to its partner come, at the partner, from that device. -/
theorem srcDev_par (c : Fin 16) (i t : ℕ) (hi : i < 11) (ht : t < 512) : srcDev (par c) (16384 * xc c + (row0 c i + t)) = c := by
  have hr := rp_lt c
  have hx := xc_lt c
  have hlt := row0_lt c i (by omega)
  unfold srcDev
  rw [xc_par, par_par, if_neg (by omega)]
  by_cases h3 : i < 3
  · have e : row0 c i = 1536 * rp c + 512 * i := by unfold row0; rw [if_pos h3]
    rw [if_neg (by omega), show 1 - (1 - xc c) = xc c by omega, show (16384 * xc c + (row0 c i + t)) % 16384 / 1536 = rp c by omega]
    exact devAt_self c
  · have e : row0 c i = 12288 + 512 * (i - 3) := by unfold row0; rw [if_neg h3, if_pos hi]
    rw [if_pos (by omega)]

/-- The rows handed round a ring come from the same device for all of the ring. -/
theorem srcDev_ring (c c' : Fin 16) (row : ℕ) (h : xc c = xc c') (h1 : row / 16384 ≠ xc c) (h2 : row % 16384 < 12288) :
    srcDev c row = srcDev c' row := by
  unfold srcDev
  rw [← h, if_neg h1, if_neg h1, if_neg (by omega), if_neg (by omega)]

theorem cwRow_bounds (c : Fin 16) (k t : ℕ) (ht : t < 384) : (cwRow c k + t) / 16384 = 1 - xc c ∧ (cwRow c k + t) % 16384 < 12288 := by
  have hx := xc_lt c
  have h1 : (rp c + 8 - k / 2) % 8 < 8 := Nat.mod_lt _ (by decide)
  have h2 : k % 2 < 2 := Nat.mod_lt _ (by decide)
  unfold cwRow
  generalize (rp c + 8 - k / 2) % 8 = q at *
  generalize k % 2 = u at *
  have hS : 1536 * q + 384 * u + t < 12288 := by omega
  rw [show 16384 * (1 - xc c) + 1536 * q + 384 * u + t = 16384 * (1 - xc c) + (1536 * q + 384 * u + t) by omega]
  generalize 1536 * q + 384 * u + t = S at *
  constructor <;> omega
theorem ccwRow_bounds (c : Fin 16) (k t : ℕ) (ht : t < 384) : (ccwRow c k + t) / 16384 = 1 - xc c ∧ (ccwRow c k + t) % 16384 < 12288 := by
  have hx := xc_lt c
  have h1 : (rp c + k / 2) % 8 < 8 := Nat.mod_lt _ (by decide)
  have h2 : k % 2 < 2 := Nat.mod_lt _ (by decide)
  unfold ccwRow
  generalize (rp c + k / 2) % 8 = q at *
  generalize k % 2 = u at *
  have hS : 1536 * q + 768 + 384 * u + t < 12288 := by omega
  rw [show 16384 * (1 - xc c) + 1536 * q + 768 + 384 * u + t = 16384 * (1 - xc c) + (1536 * q + 768 + 384 * u + t) by omega]
  generalize 1536 * q + 768 + 384 * u + t = S at *
  constructor <;> omega

end Cert.Geo
-- ==== Proof.KernelIdeal.Instr.lean ====
/-
The kernel's operations by name: for every operation of the plan, the memory operation the kernel performs for it, with the
offsets and devices the kernel computes; and what those offsets and devices are.
-/
module

public import proofs.«01_k».proof.Proof.Plan
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option backward.proofsInPublic true

noncomputable section

namespace Cert.KernelIdeal.Ring

open Cert.KernelIdeal Cert.KernelIdeal.Gen Cert.Geo Cert.Plan
open Idealize.ShloMosaic
open Idealize.ShloMosaic.TcCoe
open Idealize.SL.Sem

variable {F : FTy → Type} [FloatOps F]

/-! ## Offsets -/

/-- The rows of the argument that chunk `i` is loaded from. -/
def ldOff (c : Dev nD) (i : ℕ) : Fin 2 → ℕ :=
  if i < 3 then k0_off1 c (BitVec.ofNat 32 i) else if i < 11 then ![12288 + 512 * (i - 3), 0] else k0_off13 c (BitVec.ofNat 32 (i - 8))
/-- The rows of the result that chunk `i` goes to (on the device and on its partner). -/
def outOff (c : Dev nD) (i : ℕ) : Fin 2 → ℕ :=
  if i < 3 then k0_off3 c (BitVec.ofNat 32 i) else if i < 11 then k0_off8 c (BitVec.ofNat 32 (12288 + 512 * (i - 3)))
  else k0_off14 c (BitVec.ofNat 32 (i - 8))
/-- The half of the loaded chunk that is the partner's. -/
def halfS (c : Dev nD) (i : ℕ) : Fin 3 → ℕ := if i % 2 = 0 then k0_off2 c else k0_off5 c
/-- The half of the loaded chunk that is the device's own. -/
def halfK (c : Dev nD) (i : ℕ) : Fin 3 → ℕ := if i % 2 = 0 then k0_off4 c else k0_off6 c
/-- The rows sent to the next device in its `k`-th transfer. -/
def cwOff (c : Dev nD) (k : ℕ) : Fin 2 → ℕ :=
  if k < 2 then k0_off7 c (BitVec.ofNat 32 (384 * k)) else k0_off10 c (BitVec.ofNat 32 (k / 2)) (BitVec.ofNat 32 (384 * (k % 2)))
/-- The rows sent to the device before in its `k`-th transfer. -/
def ccwOff (c : Dev nD) (k : ℕ) : Fin 2 → ℕ :=
  if k < 2 then k0_off7 c (BitVec.ofNat 32 (768 + 384 * k)) else k0_off12 c (BitVec.ofNat 32 (k / 2)) (BitVec.ofNat 32 (768 + 384 * (k % 2)))
/-- The rows named when waiting for the `k`-th piece from the device before. -/
def cwrOff (c : Dev nD) (k : ℕ) : Fin 2 → ℕ := k0_off9 c (BitVec.ofNat 32 (k / 2)) (BitVec.ofNat 32 (384 * (k % 2)))
/-- The rows named when waiting for the `k`-th piece from the next device. -/
def ccwrOff (c : Dev nD) (k : ℕ) : Fin 2 → ℕ := k0_off11 c (BitVec.ofNat 32 (k / 2)) (BitVec.ofNat 32 (768 + 384 * (k % 2)))

theorem ldOff_eq (c : Dev nD) (i : Fin 32) : ldOff c i.val = ![row0 c i.val, 0] := by revert c i; decide +kernel
theorem outOff_eq (c : Dev nD) (i : Fin 32) : outOff c i.val = ![16384 * xc c + row0 c i.val, 0] := by revert c i; decide +kernel
theorem halfS_eq (c : Dev nD) (i : Fin 32) : halfS c i.val = ![i.val % 2, 0, 1024 * (1 - xc c)] := by revert c i; decide +kernel
theorem halfK_eq (c : Dev nD) (i : Fin 32) : halfK c i.val = ![i.val % 2, 0, 1024 * xc c] := by revert c i; decide +kernel
theorem cwOff_eq (c : Dev nD) (k : Fin 14) : cwOff c k.val = ![cwRow c k.val, 0] := by revert c k; decide +kernel
theorem ccwOff_eq (c : Dev nD) (k : Fin 14) : ccwOff c k.val = ![ccwRow c k.val, 0] := by revert c k; decide +kernel

theorem ldOff_inb (c : Dev nD) (i : Fin 32) : ∀ a, ldOff c i.val a + S512x2048.size a ≤ S16384x2048.size a := by
  revert c i; decide +kernel
theorem outOff_inb (c : Dev nD) (i : Fin 32) : ∀ a, outOff c i.val a + S512x1024.size a ≤ S32768x1024.size a := by
  revert c i; decide +kernel
theorem halfS_inb (c : Dev nD) (i : ℕ) : ∀ a, halfS c i a + S1x512x1024.size a ≤ S2x512x2048.size a := by
  unfold halfS; split; exacts [k0_off2_inb c, k0_off5_inb c]
theorem halfK_inb (c : Dev nD) (i : ℕ) : ∀ a, halfK c i a + S1x512x1024.size a ≤ S2x512x2048.size a := by
  unfold halfK; split; exacts [k0_off4_inb c, k0_off6_inb c]
theorem cwOff_inb (c : Dev nD) (k : Fin 14) : ∀ a, cwOff c k.val a + S384x1024.size a ≤ S32768x1024.size a := by
  revert c k; decide +kernel
theorem ccwOff_inb (c : Dev nD) (k : Fin 14) : ∀ a, ccwOff c k.val a + S384x1024.size a ≤ S32768x1024.size a := by
  revert c k; decide +kernel
theorem cwrOff_inb (c : Dev nD) (k : Fin 14) : ∀ a, cwrOff c k.val a + S384x1024.size a ≤ S32768x1024.size a := by
  revert c k; decide +kernel
theorem ccwrOff_inb (c : Dev nD) (k : Fin 14) : ∀ a, ccwrOff c k.val a + S384x1024.size a ≤ S32768x1024.size a := by
  revert c k; decide +kernel

/-- A whole number of words of two-byte elements from a row on: the row is even, as is the number of rows. -/
theorem outOff_words (c : Dev nD) (i : Fin 32) :
    (Rect.unit (s := S32768x1024) (outOff c i.val) S512x1024.size (outOff_inb c i)).WholeWords (EltTy.packing .bf16) := by
  revert c i; decide +kernel
theorem cwOff_words (c : Dev nD) (k : Fin 14) :
    (Rect.unit (s := S32768x1024) (cwOff c k.val) S384x1024.size (cwOff_inb c k)).WholeWords (EltTy.packing .bf16) := by
  revert c k; decide +kernel
theorem ccwOff_words (c : Dev nD) (k : Fin 14) :
    (Rect.unit (s := S32768x1024) (ccwOff c k.val) S384x1024.size (ccwOff_inb c k)).WholeWords (EltTy.packing .bf16) := by
  revert c k; decide +kernel
theorem cwrOff_words (c : Dev nD) (k : Fin 14) :
    (Rect.unit (s := S32768x1024) (cwrOff c k.val) S384x1024.size (cwrOff_inb c k)).WholeWords (EltTy.packing .bf16) := by
  revert c k; decide +kernel
theorem ccwrOff_words (c : Dev nD) (k : Fin 14) :
    (Rect.unit (s := S32768x1024) (ccwrOff c k.val) S384x1024.size (ccwrOff_inb c k)).WholeWords (EltTy.packing .bf16) := by
  revert c k; decide +kernel

theorem slotF_inb (j : Fin 2) : ∀ a, (![j.val, 0, 0] : Fin 3 → ℕ) a + S1x512x2048.size a ≤ S2x512x2048.size a := by revert j; decide
theorem slotS_inb (j : Fin 4) : ∀ a, (![j.val, 0, 0] : Fin 3 → ℕ) a + S1x512x1024.size a ≤ S4x512x1024.size a := by revert j; decide
theorem slotK_inb (j : Fin 2) : ∀ a, (![j.val, 0, 0] : Fin 3 → ℕ) a + S1x512x1024.size a ≤ S2x512x1024.size a := by revert j; decide
theorem slotS_words (j : Fin 4) :
    (Rect.unit (s := S4x512x1024) ![j.val, 0, 0] S1x512x1024.size (slotS_inb j)).WholeWords (EltTy.packing .bf16) := by
  revert j; decide +kernel
theorem slotK_words (j : Fin 2) :
    (Rect.unit (s := S2x512x1024) ![j.val, 0, 0] S1x512x1024.size (slotK_inb j)).WholeWords (EltTy.packing .bf16) := by
  revert j; decide +kernel
theorem slotS_packed (j : Fin 4) :
    (Rect.unit (s := S4x512x1024) ![j.val, 0, 0] S1x512x1024.size (slotS_inb j)).PackedRows (EltTy.packing .bf16) := by
  revert j; decide +kernel
theorem slotK_packed (j : Fin 2) :
    (Rect.unit (s := S2x512x1024) ![j.val, 0, 0] S1x512x1024.size (slotK_inb j)).PackedRows (EltTy.packing .bf16) := by
  revert j; decide +kernel

/-! ## Devices -/

/-- The device of barrier signal `d`. -/
def sigTo (c : Dev nD) (d : ℕ) : ℕ := match d with | 0 => k0_dev1 c | 1 => k0_dev2 c | _ => k0_dev3 c
/-- The device chunk `i` is sent to. -/
def xTo (c : Dev nD) (i : ℕ) : ℕ :=
  match i with
  | 0 => k0_dev4 c | 1 => k0_dev5 c | 2 => k0_dev6 c | 3 => k0_dev11 c | 4 => k0_dev12 c | 5 => k0_dev13 c | 6 => k0_dev14 c
  | 7 => k0_dev19 c | 8 => k0_dev20 c | 9 => k0_dev21 c | _ => k0_dev22 c
/-- The device of the `k`-th transfer to the next device. -/
def cwTo (c : Dev nD) (k : ℕ) : ℕ :=
  match k with
  | 0 => k0_dev7 c | 1 => k0_dev8 c | 2 => k0_dev15 c | 3 => k0_dev17 c | 4 => k0_dev23 c | 5 => k0_dev25 c | 6 => k0_dev27 c
  | 7 => k0_dev29 c | 8 => k0_dev31 c | 9 => k0_dev33 c | 10 => k0_dev35 c | 11 => k0_dev37 c | 12 => k0_dev39 c | _ => k0_dev41 c
/-- The device of the `k`-th transfer to the device before. -/
def ccwTo (c : Dev nD) (k : ℕ) : ℕ :=
  match k with
  | 0 => k0_dev9 c | 1 => k0_dev10 c | 2 => k0_dev16 c | 3 => k0_dev18 c | 4 => k0_dev24 c | 5 => k0_dev26 c | 6 => k0_dev28 c
  | 7 => k0_dev30 c | 8 => k0_dev32 c | 9 => k0_dev34 c | 10 => k0_dev36 c | 11 => k0_dev38 c | 12 => k0_dev40 c | _ => k0_dev42 c

/-- The device that barrier signal `d` goes to: the partner, the next device, the device before. -/
def sigDev (c : Dev nD) (d : ℕ) : Dev nD := if d = 0 then par c else if d = 1 then nxt c else prv c

theorem sigTo_eq (c : Dev nD) (d : Fin 3) : sigTo c d.val = (sigDev c d.val).val := by revert c d; decide +kernel
theorem xTo_eq (c : Dev nD) (i : Fin 11) : xTo c i.val = (par c).val := by revert c i; decide +kernel
theorem cwTo_eq (c : Dev nD) (k : Fin 14) : cwTo c k.val = (nxt c).val := by revert c k; decide +kernel
theorem ccwTo_eq (c : Dev nD) (k : Fin 14) : ccwTo c k.val = (prv c).val := by revert c k; decide +kernel
theorem sigTo_lt (c : Dev nD) (d : Fin 3) : sigTo c d.val < nD := by rw [sigTo_eq]; exact Fin.isLt _
theorem xTo_lt (c : Dev nD) (i : Fin 11) : xTo c i.val < nD := by rw [xTo_eq]; exact Fin.isLt _
theorem cwTo_lt (c : Dev nD) (k : Fin 14) : cwTo c k.val < nD := by rw [cwTo_eq]; exact Fin.isLt _
theorem ccwTo_lt (c : Dev nD) (k : Fin 14) : ccwTo c k.val < nD := by rw [ccwTo_eq]; exact Fin.isLt _

end Cert.KernelIdeal.Ring

end
-- ==== Proof.KernelIdeal.Body.lean ====
/-
The kernel's body is its plan: the memory operations the kernel performs, in its order, are those of the plan's names.
-/
module

public import proofs.«01_k».proof.Proof.KernelIdeal.Instr

@[expose] public section

set_option backward.proofsInPublic true

noncomputable section

namespace Cert.KernelIdeal.Ring

open Cert.KernelIdeal Cert.KernelIdeal.Gen Cert.Geo Cert.Plan
open Idealize.ShloMosaic
open Idealize.ShloMosaic.TcCoe
open Idealize.SL.Sem

variable {F : FTy → Type} [FloatOps F]

/-- A program of the kernel that returns nothing. -/
abbrev PR (F : FTy → Type) [FloatOps F] : Type 1 := Prog (TpuEff nD τ sig (Elt F) Λ₀ .tc) PUnit

/-! ## Buffers and their parts -/

abbrev xM : Memref sig .tc .hbm S16384x2048 .f32 := Memref.whole main_arg0
abbrev oM : Memref sig .tc .hbm S32768x1024 .bf16 := Memref.whole main_v1
abbrev fM : Memref sig .tc .vmem S2x512x2048 .f32 := Memref.whole cc0_scratch0
abbrev sM : Memref sig .tc .vmem S4x512x1024 .bf16 := Memref.whole cc0_scratch1
abbrev kM : Memref sig .tc .vmem S2x512x1024 .bf16 := Memref.whole cc0_scratch2

theorem xW : (xM).IsWhole := Memref.isWhole_whole _
theorem oW : (oM).IsWhole := Memref.isWhole_whole _
theorem fW : (fM).IsWhole := Memref.isWhole_whole _
theorem sW : (sM).IsWhole := Memref.isWhole_whole _
theorem kW : (kM).IsWhole := Memref.isWhole_whole _

/-- The numbers of the slots chunk `i` uses. -/
def m2 (i : ℕ) : Fin 2 := ⟨i % 2, Nat.mod_lt _ (by decide)⟩
def m4 (i : ℕ) : Fin 4 := ⟨i % 4, Nat.mod_lt _ (by decide)⟩

abbrev rF (j : Fin 2) : Rect S2x512x2048 := Rect.unit (s := S2x512x2048) ![j.val, 0, 0] S1x512x2048.size (slotF_inb j)
abbrev rS (j : Fin 4) : Rect S4x512x1024 := Rect.unit (s := S4x512x1024) ![j.val, 0, 0] S1x512x1024.size (slotS_inb j)
abbrev rK (j : Fin 2) : Rect S2x512x1024 := Rect.unit (s := S2x512x1024) ![j.val, 0, 0] S1x512x1024.size (slotK_inb j)

/-- Chunk `i` of the argument; the rows of the result it goes to; the slots; the pieces sent on. -/
abbrev xV (c : Dev nD) (i : Fin 32) : Memref sig .tc .hbm S512x2048 .f32 :=
  xM.slice (Rect.unit (s := S16384x2048) (ldOff c i.val) S512x2048.size (ldOff_inb c i)) (fun _ => rfl)
abbrev oV (c : Dev nD) (i : Fin 32) : Memref sig .tc .hbm S512x1024 .bf16 :=
  oM.slice (Rect.unit (s := S32768x1024) (outOff c i.val) S512x1024.size (outOff_inb c i)) (fun _ => rfl)
abbrev fV (j : Fin 2) : Memref sig .tc .vmem S512x2048 .f32 := (fM.slice (rF j) (fun _ => rfl)).squeeze S512x2048 squeezes_S1x512x2048_S512x2048
abbrev sV (j : Fin 4) : Memref sig .tc .vmem S512x1024 .bf16 := (sM.slice (rS j) (fun _ => rfl)).squeeze S512x1024 squeezes_S1x512x1024_S512x1024
abbrev kV (j : Fin 2) : Memref sig .tc .vmem S512x1024 .bf16 := (kM.slice (rK j) (fun _ => rfl)).squeeze S512x1024 squeezes_S1x512x1024_S512x1024
abbrev cwV (c : Dev nD) (k : Fin 14) : Memref sig .tc .hbm S384x1024 .bf16 :=
  oM.slice (Rect.unit (s := S32768x1024) (cwOff c k.val) S384x1024.size (cwOff_inb c k)) (fun _ => rfl)
abbrev ccwV (c : Dev nD) (k : Fin 14) : Memref sig .tc .hbm S384x1024 .bf16 :=
  oM.slice (Rect.unit (s := S32768x1024) (ccwOff c k.val) S384x1024.size (ccwOff_inb c k)) (fun _ => rfl)
abbrev cwrV (c : Dev nD) (k : Fin 14) : Memref sig .tc .hbm S384x1024 .bf16 :=
  oM.slice (Rect.unit (s := S32768x1024) (cwrOff c k.val) S384x1024.size (cwrOff_inb c k)) (fun _ => rfl)
abbrev ccwrV (c : Dev nD) (k : Fin 14) : Memref sig .tc .hbm S384x1024 .bf16 :=
  oM.slice (Rect.unit (s := S32768x1024) (ccwrOff c k.val) S384x1024.size (ccwrOff_inb c k)) (fun _ => rfl)

theorem xV_words (c : Dev nD) (i : Fin 32) : (xV c i).view.WordExact := View.wordExact_bits rfl
theorem fV_words (j : Fin 2) : (fV j).view.WordExact := (View.wordExact_bits rfl).reshape _ _
theorem oV_words (c : Dev nD) (i : Fin 32) : (oV c i).view.WordExact := oW.wordExact_slice rfl _ (outOff_words c i)
theorem sV_words (j : Fin 4) : (sV j).view.WordExact := (sW.wordExact_slice rfl _ (slotS_words j)).reshape _ _
theorem kV_words (j : Fin 2) : (kV j).view.WordExact := (kW.wordExact_slice rfl _ (slotK_words j)).reshape _ _
theorem cwV_words (c : Dev nD) (k : Fin 14) : (cwV c k).view.WordExact := oW.wordExact_slice rfl _ (cwOff_words c k)
theorem ccwV_words (c : Dev nD) (k : Fin 14) : (ccwV c k).view.WordExact := oW.wordExact_slice rfl _ (ccwOff_words c k)
theorem cwrV_words (c : Dev nD) (k : Fin 14) : (cwrV c k).view.WordExact := oW.wordExact_slice rfl _ (cwrOff_words c k)
theorem ccwrV_words (c : Dev nD) (k : Fin 14) : (ccwrV c k).view.WordExact := oW.wordExact_slice rfl _ (ccwrOff_words c k)

/-! ## Semaphores -/

theorem sem2_inb (j : Fin 2) : ∀ a, (![j.val] : Fin 1 → ℕ) a + S1.size a ≤ S2.size a := by revert j; decide
theorem sem32_inb (j : Fin 32) : ∀ a, (![j.val] : Fin 1 → ℕ) a + S1.size a ≤ S32.size a := by revert j; decide
theorem sem11_inb (j : Fin 11) : ∀ a, (![j.val] : Fin 1 → ℕ) a + S1.size a ≤ S11.size a := by revert j; decide
theorem sem14_inb (j : Fin 14) : ∀ a, (![j.val] : Fin 1 → ℕ) a + S1.size a ≤ S14.size a := by revert j; decide

abbrev barS : Sem sig := (SemArray.scalar (sig.barrier 0 rfl) : Sems sig S_).sem
abbrev ldS (j : Fin 2) : DmaSem sig := ((cc0_scratch3.slice (Rect.unit (s := S2) ![j.val] S1.size (sem2_inb j))).squeeze S_ squeezes_S1_S_).sem
abbrev stS (j : Fin 32) : DmaSem sig := ((cc0_scratch4.slice (Rect.unit (s := S32) ![j.val] S1.size (sem32_inb j))).squeeze S_ squeezes_S1_S_).sem
abbrev xsS (j : Fin 11) : DmaSem sig := ((cc0_scratch5.slice (Rect.unit (s := S11) ![j.val] S1.size (sem11_inb j))).squeeze S_ squeezes_S1_S_).sem
abbrev xrS (j : Fin 11) : DmaSem sig := ((cc0_scratch6.slice (Rect.unit (s := S11) ![j.val] S1.size (sem11_inb j))).squeeze S_ squeezes_S1_S_).sem
abbrev cwsS (j : Fin 14) : DmaSem sig := ((cc0_scratch7.slice (Rect.unit (s := S14) ![j.val] S1.size (sem14_inb j))).squeeze S_ squeezes_S1_S_).sem
abbrev cwrS (j : Fin 14) : DmaSem sig := ((cc0_scratch8.slice (Rect.unit (s := S14) ![j.val] S1.size (sem14_inb j))).squeeze S_ squeezes_S1_S_).sem
abbrev ccwsS (j : Fin 14) : DmaSem sig := ((cc0_scratch9.slice (Rect.unit (s := S14) ![j.val] S1.size (sem14_inb j))).squeeze S_ squeezes_S1_S_).sem
abbrev ccwrS (j : Fin 14) : DmaSem sig := ((cc0_scratch10.slice (Rect.unit (s := S14) ![j.val] S1.size (sem14_inb j))).squeeze S_ squeezes_S1_S_).sem

/-! ## The operations -/

/-- What the kernel stores for a half it has loaded: the half rounded to the result's format. -/
def castPay (v : Vec F S1x512x1024 .f32) : FVec F S1x512x1024 .bf16 :=
  shapeCast S1x512x1024 (truncf .bf16 (shapeCast S512x1024 v shapeCasts_S1x512x1024_S512x1024) bitsLt_bf16_f32) shapeCasts_S512x1024_S1x512x1024

/-- Load a half of slot `i` of the load buffer, look at the slot it goes to, and store it there rounded. -/
def castS (c : Dev nD) (i : Fin 11) : PR F :=
  .op (.load fM (Rect.unit (s := S2x512x2048) (halfS c i.val) S1x512x1024.size (halfS_inb c i.val)).toLoadRect (View.loadsAt_vmem h_S1x512x1024)) fun v =>
  .op (.load sM (rS (m4 i.val)).toLoadRect (View.loadsAt_vmem h_S1x512x1024)) fun _ =>
  .op (.store sM (rS (m4 i.val)) (castPay v) Finset.univ
    (View.stores_vmem h_S1x512x1024 (sW.storeExact_slice rfl _ (slotS_packed (m4 i.val))) (fun _ => rfl)) (.inl rfl)) .ret
/-- The same for the half that is kept. -/
def castK (c : Dev nD) (i : Fin 32) : PR F :=
  .op (.load fM (Rect.unit (s := S2x512x2048) (halfK c i.val) S1x512x1024.size (halfK_inb c i.val)).toLoadRect (View.loadsAt_vmem h_S1x512x1024)) fun v =>
  .op (.load kM (rK (m2 i.val)).toLoadRect (View.loadsAt_vmem h_S1x512x1024)) fun _ =>
  .op (.store kM (rK (m2 i.val)) (castPay v) Finset.univ
    (View.stores_vmem h_S1x512x1024 (kW.storeExact_slice rfl _ (slotK_packed (m2 i.val))) (fun _ => rfl)) (.inl rfl)) .ret

/-- Chunk `i` of those sent, counted among all. -/
def up (i : Fin 11) : Fin 32 := ⟨i.val, by omega⟩

/-- The memory operations of each name of the plan. -/
def instr (c : Dev nD) : Op → PR F
  | .sig d => semSignalWord (⟨sigTo c d.val, sigTo_lt c d⟩ : Dev nD) barS 1#32
  | .barw => semWaitWord barS 3#32
  | .ld i => .op (.enqueueDma (xV c i) (.here (fV (m2 i.val))) (.dma (ldS (m2 i.val))) (xV_words c i) (fV_words _) ⟨Or.inl rfl, trivial⟩) .ret
  | .ldw i => .op (.waitDma2 (ldS (m2 i.val)) (xV c i) (fV (m2 i.val)) (xV_words c i) (fV_words _)) .ret
  | .castS i => castS c i
  | .xs i => .op (.enqueueDma (sV (m4 i.val)) (.remote (Dev.tc (⟨xTo c i.val, xTo_lt c i⟩ : Dev nD)) (oV c (up i)) (.dma (xsS i))) (.dma (xrS i))
      (sV_words _) (oV_words c (up i)) ⟨⟨rfl, Or.inl rfl⟩, trivial⟩) .ret
  | .xsw i => .op (.waitDma2 (xsS i) (oV c (up i)) (sV (m4 i.val)) (oV_words c (up i)) (sV_words _)) .ret
  | .xrw i => .op (.waitDma2 (xrS i) (sV (m4 i.val)) (oV c (up i)) (sV_words _) (oV_words c (up i))) .ret
  | .castK i => castK c i
  | .st i => .op (.enqueueDma (kV (m2 i.val)) (.here (oV c i)) (.dma (stS i)) (kV_words _) (oV_words c i) ⟨Or.inl rfl, trivial⟩) .ret
  | .stw i => .op (.waitDma2 (stS i) (kV (m2 i.val)) (oV c i) (kV_words _) (oV_words c i)) .ret
  | .cw k => .op (.enqueueDma (cwV c k) (.remote (Dev.tc (⟨cwTo c k.val, cwTo_lt c k⟩ : Dev nD)) (cwV c k) (.dma (cwsS k))) (.dma (cwrS k))
      (cwV_words c k) (cwV_words c k) ⟨⟨rfl, Or.inl rfl⟩, trivial⟩) .ret
  | .cwsw k => .op (.waitDma2 (cwsS k) (cwV c k) (cwV c k) (cwV_words c k) (cwV_words c k)) .ret
  | .cwrw k => .op (.waitDma2 (cwrS k) (cwrV c k) (cwrV c k) (cwrV_words c k) (cwrV_words c k)) .ret
  | .ccw k => .op (.enqueueDma (ccwV c k) (.remote (Dev.tc (⟨ccwTo c k.val, ccwTo_lt c k⟩ : Dev nD)) (ccwV c k) (.dma (ccwsS k))) (.dma (ccwrS k))
      (ccwV_words c k) (ccwV_words c k) ⟨⟨rfl, Or.inl rfl⟩, trivial⟩) .ret
  | .ccwsw k => .op (.waitDma2 (ccwsS k) (ccwV c k) (ccwV c k) (ccwV_words c k) (ccwV_words c k)) .ret
  | .ccwrw k => .op (.waitDma2 (ccwrS k) (ccwrV c k) (ccwrV c k) (ccwrV_words c k) (ccwrV_words c k)) .ret
  | .cut _ => .ret ⟨⟩

/-- Programs one after the other. -/
def seqAll : List (PR F) → PR F
  | [] => .ret ⟨⟩
  | p :: ps => p.bind fun _ => seqAll ps

set_option maxRecDepth 100000 in
/-- The kernel's body reads its device and then performs the plan. -/
theorem body_eq : (cc0_body_skel xM xW oM oW fM fW sM sW kM kW cc0_scratch3 cc0_scratch4 cc0_scratch5 cc0_scratch6 cc0_scratch7 cc0_scratch8 cc0_scratch9 cc0_scratch10 : PR F)
    = .op .deviceId fun c => seqAll (plan.map (instr c)) := rfl

end Cert.KernelIdeal.Ring

end
-- ==== Proof.KernelIdeal.Res.lean ====
/-
What the plan's names stand for at a device: parts of its buffers with what they hold, and the ghost state of the protocol's
semaphores. The schedule of the semaphores — who fills which, by how much, handing over what.
-/
module

public import proofs.«01_k».proof.Proof.KernelIdeal.Body

@[expose] public section

set_option backward.proofsInPublic true

noncomputable section

namespace Cert.KernelIdeal.Ring

open Cert.KernelIdeal Cert.KernelIdeal.Gen Cert.Geo Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's (duties numbered) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Separating conjunctions over lists of names -/

/-- What all names of a list stand for, separately. -/
def sepL (P : Atom → sProp 𝕄) : List Atom → sProp 𝕄
  | [] => iprop(emp)
  | a :: l => iprop(P a ∗ sepL P l)

omit [FloatOps F] in
theorem sepL_append (P : Atom → sProp 𝕄) (l l' : List Atom) : sepL P (l ++ l') ⊣⊢ iprop(sepL P l ∗ sepL P l') := by
  induction l with
  | nil =>
    constructor
    · iintro H; isplitr; · exact Entails.refl _
      iexact H
    · iintro ⟨-, H⟩; iexact H
  | cons a l ih =>
    constructor
    · show iprop(P a ∗ sepL P (l ++ l')) ⊢ iprop((P a ∗ sepL P l) ∗ sepL P l')
      iintro ⟨Ha, H⟩
      ihave H' := ih.1 $$ H
      icases H' with ⟨H1, H2⟩
      isplitl [Ha H1]; · isplitl [Ha] <;> iassumption
      iexact H2
    · show iprop((P a ∗ sepL P l) ∗ sepL P l') ⊢ iprop(P a ∗ sepL P (l ++ l'))
      iintro ⟨⟨Ha, H1⟩, H2⟩
      isplitl [Ha]; · iexact Ha
      iapply ih.2; isplitl [H1] <;> iassumption

omit [FloatOps F] in
theorem sepL_take1 (P : Atom → sProp 𝕄) (a : Atom) : ∀ (l l' : List Atom), take1 a l = some l' → sepL P l ⊢ iprop(P a ∗ sepL P l')
  | [], _, h => by simp [take1] at h
  | b :: l, l', h => by
    unfold take1 at h
    cases hb : a.beq b with
    | true =>
      rw [hb] at h
      obtain rfl := Option.some.inj h
      rw [Atom.eq_of_beq hb]
      exact Entails.refl _
    | false =>
      rw [hb] at h
      obtain ⟨l₁, h₁, rfl⟩ := Option.map_eq_some_iff.1 (show (take1 a l).map (b :: ·) = some l' from h)
      show iprop(P b ∗ sepL P l) ⊢ iprop(P a ∗ P b ∗ sepL P l₁)
      iintro ⟨Hb, H⟩
      ihave H' := sepL_take1 P a l l₁ h₁ $$ H
      icases H' with ⟨Ha, H⟩
      isplitl [Ha]; · iexact Ha
      isplitl [Hb] <;> iassumption

omit [FloatOps F] in
theorem sepL_takeAll (P : Atom → sProp 𝕄) : ∀ (ps l l' : List Atom), takeAll ps l = some l' → sepL P l ⊢ iprop(sepL P ps ∗ sepL P l')
  | [], l, l', h => by
    obtain rfl := Option.some.inj h
    iintro H; isplitr; · exact Entails.refl _
    iexact H
  | a :: ps, l, l', h => by
    obtain ⟨l₁, h₁, h₂⟩ := Option.bind_eq_some_iff.1 h
    show sepL P l ⊢ iprop((P a ∗ sepL P ps) ∗ sepL P l')
    iintro H
    ihave H' := sepL_take1 P a l l₁ h₁ $$ H
    icases H' with ⟨Ha, H⟩
    ihave H' := sepL_takeAll P ps l₁ l' h₂ $$ H
    icases H' with ⟨Has, H⟩
    isplitl [Ha Has]; · isplitl [Ha] <;> iassumption
    iexact H

/-! ## Contents -/

variable (m : (ℓ : Loc nD τ sig) → Buf (Elt F) ℓ)

abbrev xL (c : Dev nD) : Loc nD τ sig := (c : Thread nD τ).loc main_arg0
abbrev oL (c : Dev nD) : Loc nD τ sig := (c : Thread nD τ).loc main_v1
abbrev fL (c : Dev nD) : Loc nD τ sig := (c : Thread nD τ).loc cc0_scratch0
abbrev sL (c : Dev nD) : Loc nD τ sig := (c : Thread nD τ).loc cc0_scratch1
abbrev kL (c : Dev nD) : Loc nD τ sig := (c : Thread nD τ).loc cc0_scratch2

/-- An index of the argument, by its row and column. -/
def xIx (r k : ℕ) : S16384x2048.Idx := fun
  | ⟨0, _⟩ => ⟨r % 16384, Nat.mod_lt _ (by decide)⟩
  | ⟨1, _⟩ => ⟨k % 2048, Nat.mod_lt _ (by decide)⟩
/-- The argument's element at row `r` and column `k` on device `c`. -/
def xat (c : Dev nD) (r k : ℕ) : F .f32 := m (xL c) (xIx r k)
/-- An element in the result's format. -/
def rnd (x : F .f32) : F .bf16 := FloatOps.truncf .bf16 bitsLt_bf16_f32 x

/-- The load buffer holding chunk `i`. -/
def vfC (c : Dev nD) (i : ℕ) : Buf (Elt F) (fL c) := fun j : S2x512x2048.Idx => xat m c (row0 c i + (j 1).val) (j 2).val
/-- The send buffer holding the partner's half of chunk `i`. -/
def vsC (c : Dev nD) (i : ℕ) : Buf (Elt F) (sL c) :=
  fun j : S4x512x1024.Idx => rnd (xat m c (row0 c i + (j 1).val) (1024 * (1 - xc c) + (j 2).val))
/-- The keep buffer holding the own half of chunk `i`. -/
def vkC (c : Dev nD) (i : ℕ) : Buf (Elt F) (kL c) :=
  fun j : S2x512x1024.Idx => rnd (xat m c (row0 c i + (j 1).val) (1024 * xc c + (j 2).val))
/-- The result: a row of the source device's argument, the columns of the own half, rounded. -/
def outC (c : Dev nD) : Buf (Elt F) (oL c) :=
  fun j : S32768x1024.Idx => rnd (xat m (srcDev c (j 0).val) ((j 0).val % 16384) (1024 * xc c + (j 1).val))

/-! ## Parts of buffers -/

/-- The elements of a shape whose coordinate on axis `a` lies in `lo .. lo + n - 1`. -/
def band (s : Shape) (a : Fin s.rank) (lo n : ℕ) : Finset s.Idx := Finset.univ.filter fun i => lo ≤ (i a).val ∧ (i a).val < lo + n

theorem mem_band {s : Shape} {a : Fin s.rank} {lo n : ℕ} {i : s.Idx} : i ∈ band s a lo n ↔ lo ≤ (i a).val ∧ (i a).val < lo + n := by
  simp [band]

/-- Rows of the argument. -/
def xR (c : Dev nD) (lo n : ℕ) (f : Buf (Elt F) (xL c)) : sProp 𝕄 := xL c ↦[band S16384x2048 0 lo n]{fullShare} f
/-- Rows of the result. -/
def oR (c : Dev nD) (lo n : ℕ) (f : Buf (Elt F) (oL c)) : sProp 𝕄 := oL c ↦[band S32768x1024 0 lo n]{fullShare} f
/-- A slot of the load buffer. -/
def fR (c : Dev nD) (j : ℕ) (f : Buf (Elt F) (fL c)) : sProp 𝕄 := fL c ↦[band S2x512x2048 0 j 1]{fullShare} f
/-- A slot of the send buffer. -/
def sR (c : Dev nD) (j : ℕ) (f : Buf (Elt F) (sL c)) : sProp 𝕄 := sL c ↦[band S4x512x1024 0 j 1]{fullShare} f
/-- A slot of the keep buffer. -/
def kR (c : Dev nD) (j : ℕ) (f : Buf (Elt F) (kL c)) : sProp 𝕄 := kL c ↦[band S2x512x1024 0 j 1]{fullShare} f

/-- What the names of buffer parts stand for at device `c`. -/
def mem (c : Dev nD) (a : Atom) : sProp 𝕄 :=
  match a.kind with
  | 0 => xR c (row0 c a.idx) 512 (m (xL c))
  | 1 => iprop(∃ f, fR c a.idx f)
  | 2 => fR c (a.idx % 2) (vfC m c a.idx)
  | 3 => iprop(∃ f, sR c a.idx f)
  | 4 => sR c (a.idx % 4) (vsC m c a.idx)
  | 5 => iprop(∃ f, kR c a.idx f)
  | 6 => kR c (a.idx % 2) (vkC m c a.idx)
  | 7 => iprop(∃ f, oR c (16384 * xc c + row0 c a.idx) 512 f)
  | 8 => oR c (16384 * xc c + row0 c a.idx) 512 (outC m c)
  | 9 => iprop(∃ f, oR (par c) (16384 * xc c + row0 c a.idx) 512 f)
  | 10 => iprop(∃ f, oR (nxt c) (cwRow c a.idx) 384 f)
  | 11 => iprop(∃ f, oR (prv c) (ccwRow c a.idx) 384 f)
  | 12 => oR c (16384 * (1 - xc c) + 1536 * rp c + a.idx) (a.aux - a.idx) (outC m c)
  | 13 => oR c (16384 * (1 - xc c) + row0 c a.idx) 512 (outC m c)
  | 14 => oR c (cwRow c a.idx) 384 (outC m c)
  | 15 => oR c (ccwRow c a.idx) 384 (outC m c)
  | _ => iprop(emp)

instance mem_storable (c : Dev nD) (a : Atom) : BI.Storable (upEmb : UEmb _ 𝕄) (mem m c a) := by
  unfold mem xR oR fR sR kR
  split <;> infer_instance

instance sepL_storable (P : Atom → sProp 𝕄) [∀ a, BI.Storable (upEmb : UEmb _ 𝕄) (P a)] (l : List Atom) :
    BI.Storable (upEmb : UEmb _ 𝕄) (sepL P l) := by
  induction l with
  | nil => unfold sepL; infer_instance
  | cons a l ih => unfold sepL; infer_instance

/-! ## The semaphores and their schedule -/

/-- The number of a semaphore. -/
def semIx : SemLoc sig → ℕ
  | .dma s => s.val
  | .reg _ => 112
/-- The semaphore of a number. -/
def semOf (s : ℕ) : SemLoc sig := if h : s < 112 then .dma ⟨s, h⟩ else .reg barS
/-- Semaphore number `s` of device `d`. -/
abbrev cellAt (d : Dev nD) (s : ℕ) : GSem nD τ sig := ((d : Thread nD τ), semOf s)

theorem semIx_semOf (s : ℕ) (h : s < 113) : semIx (semOf s) = s := by
  unfold semOf; split
  · rfl
  · show 112 = s; omega

theorem ldS_eq (j : Fin 2) : (SemLoc.dma (ldS j) : SemLoc sig) = semOf j.val := by revert j; decide +kernel
theorem stS_eq (j : Fin 32) : (SemLoc.dma (stS j) : SemLoc sig) = semOf (2 + j.val) := by revert j; decide +kernel
theorem xsS_eq (j : Fin 11) : (SemLoc.dma (xsS j) : SemLoc sig) = semOf (34 + j.val) := by revert j; decide +kernel
theorem xrS_eq (j : Fin 11) : (SemLoc.dma (xrS j) : SemLoc sig) = semOf (45 + j.val) := by revert j; decide +kernel
theorem cwsS_eq (j : Fin 14) : (SemLoc.dma (cwsS j) : SemLoc sig) = semOf (56 + j.val) := by revert j; decide +kernel
theorem cwrS_eq (j : Fin 14) : (SemLoc.dma (cwrS j) : SemLoc sig) = semOf (70 + j.val) := by revert j; decide +kernel
theorem ccwsS_eq (j : Fin 14) : (SemLoc.dma (ccwsS j) : SemLoc sig) = semOf (84 + j.val) := by revert j; decide +kernel
theorem ccwrS_eq (j : Fin 14) : (SemLoc.dma (ccwrS j) : SemLoc sig) = semOf (98 + j.val) := by revert j; decide +kernel

/-- The units a transfer of a whole chunk, of half a chunk, of a piece adds to its semaphore. -/
def nL : ℕ := (fV 0).view.dmaCredit
def nX : ℕ := (sV 0).view.dmaCredit
def nP : ℕ := (cwV 0 0).view.dmaCredit
theorem nL_pos : 0 < nL := View.dmaCredit_pos _ (by decide)
theorem nX_pos : 0 < nX := View.dmaCredit_pos _ (by decide)
theorem nP_pos : 0 < nP := View.dmaCredit_pos _ (by decide)

/-- The units one duty of semaphore `s` adds. -/
def amt (s : ℕ) : ℕ := if s < 2 then nL else if s < 56 then nX else if s < 112 then nP else 1
theorem amt_pos (s : ℕ) : 0 < amt s := by
  unfold amt; split_ifs; exacts [nL_pos, nX_pos, nP_pos, Nat.one_pos]
/-- The units of a whole round. -/
def need (s : ℕ) : ℕ := if s < 112 then amt s else 3

/-- The duties of round `r` of semaphore `s`: a load semaphore has a duty in each of sixteen rounds, the barrier three in one
    round, every other one. -/
def dutyOf (s r : ℕ) : Finset ℕ :=
  if s < 2 then (if r < 16 then {r} else ∅) else if r = 0 then (if s < 112 then {0} else {0, 1, 2}) else ∅
/-- The round of duty `a`. -/
def rOf (s a : ℕ) : ℕ := if s < 2 then a else 0

/-- The schedule: what a duty hands over is `pay`, read at the device whose semaphore it is. -/
def Rd : Rounds.Schedule (GSem nD τ sig) ℕ 𝕄 where
  duties g r := if g.1.2 = .tc then dutyOf (semIx g.2) r else ∅
  unitless _ := False
  amount g _ _ := amt (semIx g.2)
  payload g _ d := sepL (mem m g.1.1) (pay (semIx g.2) d)
  amount_pos _ _ _ _ := amt_pos _

instance Rd_payload_storable (g : GSem nD τ sig) (r d : ℕ) : BI.Storable (upEmb : UEmb _ 𝕄) ((Rd (F := F) m).payload g r d) := by
  show BI.Storable upEmb (sepL (mem m g.1.1) (pay (semIx g.2) d)); infer_instance

omit [FloatOps F] in
theorem tc_isTc (d : Dev nD) : ((d : Thread nD τ)).2 = .tc := rfl

theorem Rd_duties (d : Dev nD) (s r : ℕ) (h : s < 113) : (Rd (F := F) m).duties (cellAt d s) r = dutyOf s r := by
  show (if ((d : Thread nD τ)).2 = .tc then dutyOf (semIx (semOf s)) r else ∅) = _
  rw [if_pos (tc_isTc d), semIx_semOf s h]
theorem Rd_amount (d : Dev nD) (s r a : ℕ) (h : s < 113) : (Rd (F := F) m).amount (cellAt d s) r a = amt s := by
  show amt (semIx (semOf s)) = _; rw [semIx_semOf s h]
theorem Rd_payload (d : Dev nD) (s r a : ℕ) (h : s < 113) : (Rd (F := F) m).payload (cellAt d s) r a = sepL (mem m d) (pay s a) := by
  show sepL (mem m d) (pay (semIx (semOf s)) a) = _; rw [semIx_semOf s h]

/-- The rounds a semaphore has. -/
def rounds (s : ℕ) : ℕ := if s < 2 then 16 else 1
theorem dutyOf_later (s r : ℕ) (h : rounds s ≤ r) : dutyOf s r = ∅ := by
  unfold rounds at h; unfold dutyOf; split_ifs at h ⊢ <;> first | rfl | omega

theorem Rd_expect (d : Dev nD) (s r : ℕ) (h : s < 113) (hr : r < rounds s) : (Rd (F := F) m).expect (cellAt d s) r = need s := by
  unfold Schedule.expect Schedule.amountOf
  rw [Rd_duties m d s r h, Finset.sum_congr rfl fun a _ => Rd_amount m d s r a h, Finset.sum_const, smul_eq_mul]
  unfold rounds at hr
  unfold dutyOf need
  by_cases h2 : s < 2
  · rw [if_pos h2] at hr; rw [if_pos h2, if_pos hr, if_pos (by omega)]; simp
  · rw [if_neg h2] at hr
    rw [if_neg h2, if_pos (by omega)]
    by_cases h3 : s < 112
    · rw [if_pos h3, if_pos h3]; simp
    · rw [if_neg h3, if_neg h3]
      have : amt s = 1 := by unfold amt; rw [if_neg h2, if_neg (by omega), if_neg h3]
      rw [this]; rfl

/-! ## All names -/

/-- The device whose semaphore `s` a device's duty `a` is paid to. -/
def tdev (c : Dev nD) (s a : ℕ) : Dev nD :=
  if s < 45 then c else if s < 56 then par c else if s < 70 then c else if s < 84 then nxt c else if s < 98 then c
  else if s < 112 then prv c else sigDev c a

/-- What a name stands for at device `c`. -/
def interp (c : Dev nD) (a : Atom) : sProp 𝕄 :=
  match a.kind with
  | 16 => sepL (mem m (tdev c 112 a.idx)) (pay 112 a.idx)
  | 17 => dutyTok ER (cellAt (tdev c a.idx a.aux) a.idx) (rOf a.idx a.aux) a.aux
  | 18 => atPos ER (cellAt c a.idx) a.aux ∅ 0
  | 19 => cred (tallyAt (cellAt c a.idx) () (need a.idx))
  | 20 => reached ER (cellAt c a.idx) a.aux
  | _ => mem m c a

/-- What a device owes: every signal it has still to give. -/
def dueO (c : Dev nD) : List (ℕ × ℕ) → CellTallies nD τ sig Unit
  | [] => 0
  | p :: ds => dueO c ds + tallyAt (cellAt (tdev c p.1 p.2) p.1) () (amt p.1)

/-- The debt, whatever has been waited for. -/
def owesE (c : Dev nD) (ds : List (ℕ × ℕ)) : sProp 𝕄 := iprop(∃ W, owes (c : Thread nD τ) (dueO c ds) W)

/-- Levels: only the TensorCores' semaphores have any; by number. -/
def L (g : GSem nD τ sig) : Finset Unit := if g.1.2 = .tc then {()} else ∅
def lv (g : GSem nD τ sig) (_ : Unit) : ℕ := lev (semIx g.2)

/-- Every semaphore of every device. -/
abbrev Key : Type := Dev nD × Fin 113
abbrev kcell (p : Key) : GSem nD τ sig := cellAt p.1 p.2.val

/-- What is shared by all: the invariants of all semaphores, under the names `K`, each at its first round at least. -/
def records (K : Key → ℕ) : sProp 𝕄 :=
  bigSep Finset.univ fun p : Key => iprop(cellInv ER (Rd m) (K p) (kcell p) ∗ reached ER (kcell p) 0)

instance records_persistent (K : Key → ℕ) : BI.Persistent (records m K) := by
  unfold records; infer_instance

theorem records_get (K : Key → ℕ) (d : Dev nD) (s : ℕ) (h : s < 113) :
    records m K ⊢ iprop(cellInv ER (Rd m) (K (d, ⟨s, h⟩)) (cellAt d s) ∗ reached ER (cellAt d s) 0) :=
  bigSep_elim (Finset.mem_univ (d, (⟨s, h⟩ : Fin 113)))

end Cert.KernelIdeal.Ring

end
-- ==== Proof.KernelIdeal.Vals.lean ====
/-
The views the kernel moves through, as parts of buffers; and what each movement leaves, element by element.
-/
module

public import proofs.«01_k».proof.Proof.KernelIdeal.Res
public import proofs.«01_k».proof.Proof.Src
public import Idealize.ShloMosaic.Lib.Pipeline.Value
public import Idealize.ShloMosaic.Lib.Pipeline.ValueKit.Geometry

@[expose] public section

set_option backward.proofsInPublic true

noncomputable section

namespace Cert.KernelIdeal.Ring

open Cert.KernelIdeal Cert.KernelIdeal.Gen Cert.Geo Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## General -/

/-- A rectangle that is whole on all axes but one is a band. -/
theorem rect_band {s : Shape} (a : Fin s.rank) (off size : Fin s.rank → ℕ) (inb) (lo n : ℕ) (h1 : off a = lo) (h2 : size a = n)
    (ho : ∀ b, b ≠ a → off b = 0 ∧ size b = s.size b) : (Rect.unit (s := s) off size inb).set = band s a lo n := by
  ext i
  rw [Rect.mem_set_unit, mem_band]
  constructor
  · intro h
    have := h a
    omega
  · intro h b
    by_cases hb : b = a
    · subst hb; omega
    · obtain ⟨e1, e2⟩ := ho b hb
      have := (i b).isLt
      omega

/-- Contents written through a view, compared with others on the view's elements. -/
theorem write_val {κ : Kind} {sp : Space} {s : Shape} {e : EltTy} (v : View sig κ sp s e) (f g : v.ty.Contents (Elt F))
    (w : s.Idx → Elt F e) (h : ∀ j, g (v.emb j) = _root_.cast (congrArg (Elt F) v.elt_eq.symm) (w j)) :
    ∀ i ∈ v.set, v.write (Elt F) f w Finset.univ i = g i := by
  intro i hi
  obtain ⟨j, -, rfl⟩ := Finset.mem_map.1 hi
  rw [View.write_emb_of_mem _ _ (Finset.mem_univ j), h j]

/-- An index of a shape with a leading axis of length one, from an index of the shape without it. -/
theorem addUnit_idx {n : ℕ} (d : Fin n → ℕ) (h : (⟨n + 1, Matrix.vecCons 1 d⟩ : Shape).ShapeCasts ⟨n, d⟩) (j : (⟨n, d⟩ : Shape).Idx) :
    (Shape.reshapeEquiv h j : (⟨n + 1, Matrix.vecCons 1 d⟩ : Shape).Idx) = Fin.cons ⟨0, Nat.one_pos⟩ j :=
  shapeCast_dropUnit_apply d (fun i => i) h j

/-! ## The views as bands -/

theorem xV_set (c : Dev nD) (i : Fin 32) : (xV c i).view.set = band S16384x2048 0 (row0 c i.val) 512 := by
  refine (View.set_slice_whole main_arg0 _).trans (rect_band (s := S16384x2048) 0 _ _ _ _ _ ?_ rfl ?_)
  · exact congrFun (ldOff_eq c i) 0
  · intro b hb; fin_cases b
    · exact absurd rfl hb
    · exact ⟨congrFun (ldOff_eq c i) 1, rfl⟩

theorem oV_set (c : Dev nD) (i : Fin 32) : (oV c i).view.set = band S32768x1024 0 (16384 * xc c + row0 c i.val) 512 := by
  refine (View.set_slice_whole main_v1 _).trans (rect_band (s := S32768x1024) 0 _ _ _ _ _ ?_ rfl ?_)
  · exact congrFun (outOff_eq c i) 0
  · intro b hb; fin_cases b
    · exact absurd rfl hb
    · exact ⟨congrFun (outOff_eq c i) 1, rfl⟩

theorem cwV_set (c : Dev nD) (k : Fin 14) : (cwV c k).view.set = band S32768x1024 0 (cwRow c k.val) 384 := by
  refine (View.set_slice_whole main_v1 _).trans (rect_band (s := S32768x1024) 0 _ _ _ _ _ ?_ rfl ?_)
  · exact congrFun (cwOff_eq c k) 0
  · intro b hb; fin_cases b
    · exact absurd rfl hb
    · exact ⟨congrFun (cwOff_eq c k) 1, rfl⟩

theorem ccwV_set (c : Dev nD) (k : Fin 14) : (ccwV c k).view.set = band S32768x1024 0 (ccwRow c k.val) 384 := by
  refine (View.set_slice_whole main_v1 _).trans (rect_band (s := S32768x1024) 0 _ _ _ _ _ ?_ rfl ?_)
  · exact congrFun (ccwOff_eq c k) 0
  · intro b hb; fin_cases b
    · exact absurd rfl hb
    · exact ⟨congrFun (ccwOff_eq c k) 1, rfl⟩

theorem rF_set (j : Fin 2) : (rF j).set = band S2x512x2048 0 j.val 1 := by
  refine rect_band (s := S2x512x2048) 0 _ _ _ _ _ rfl rfl ?_
  intro b hb; fin_cases b
  · exact absurd rfl hb
  · exact ⟨rfl, rfl⟩
  · exact ⟨rfl, rfl⟩
theorem rS_set (j : Fin 4) : (rS j).set = band S4x512x1024 0 j.val 1 := by
  refine rect_band (s := S4x512x1024) 0 _ _ _ _ _ rfl rfl ?_
  intro b hb; fin_cases b
  · exact absurd rfl hb
  · exact ⟨rfl, rfl⟩
  · exact ⟨rfl, rfl⟩
theorem rK_set (j : Fin 2) : (rK j).set = band S2x512x1024 0 j.val 1 := by
  refine rect_band (s := S2x512x1024) 0 _ _ _ _ _ rfl rfl ?_
  intro b hb; fin_cases b
  · exact absurd rfl hb
  · exact ⟨rfl, rfl⟩
  · exact ⟨rfl, rfl⟩

theorem fV_set (j : Fin 2) : (fV j).view.set = band S2x512x2048 0 j.val 1 :=
  (View.set_reshape ((View.whole cc0_scratch0).slice (rF j)) _).trans ((View.set_slice_whole cc0_scratch0 _).trans (rF_set j))
theorem sV_set (j : Fin 4) : (sV j).view.set = band S4x512x1024 0 j.val 1 :=
  (View.set_reshape ((View.whole cc0_scratch1).slice (rS j)) _).trans ((View.set_slice_whole cc0_scratch1 _).trans (rS_set j))
theorem kV_set (j : Fin 2) : (kV j).view.set = band S2x512x1024 0 j.val 1 :=
  (View.set_reshape ((View.whole cc0_scratch2).slice (rK j)) _).trans ((View.set_slice_whole cc0_scratch2 _).trans (rK_set j))

/-! ## Where a view's elements lie -/

theorem xV_emb (c : Dev nD) (i : Fin 32) (j : S512x2048.Idx) :
    (((xV c i).view.emb j : S16384x2048.Idx) 0).val = row0 c i.val + (j 0).val ∧ (((xV c i).view.emb j : S16384x2048.Idx) 1).val = (j 1).val := by
  have h := fun a => ValueKit.rect_emb_unit_val (s := S16384x2048) (ldOff c i.val) S512x2048.size (ldOff_inb c i) j a
  exact ⟨(h 0).trans (congrArg (· + (j 0).val) (congrFun (ldOff_eq c i) 0)),
    ((h 1).trans (congrArg (· + (j 1).val) (congrFun (ldOff_eq c i) 1))).trans (Nat.zero_add _)⟩

theorem oV_emb (c : Dev nD) (i : Fin 32) (j : S512x1024.Idx) :
    (((oV c i).view.emb j : S32768x1024.Idx) 0).val = 16384 * xc c + row0 c i.val + (j 0).val ∧ (((oV c i).view.emb j : S32768x1024.Idx) 1).val = (j 1).val := by
  have h := fun a => ValueKit.rect_emb_unit_val (s := S32768x1024) (outOff c i.val) S512x1024.size (outOff_inb c i) j a
  exact ⟨(h 0).trans (congrArg (· + (j 0).val) (congrFun (outOff_eq c i) 0)),
    ((h 1).trans (congrArg (· + (j 1).val) (congrFun (outOff_eq c i) 1))).trans (Nat.zero_add _)⟩

/-- Where an element of a slot of a buffer of slots lies. -/
theorem slot_emb (N a b lo : ℕ) (inb) (h : (⟨3, ![1, a, b]⟩ : Shape).ShapeCasts ⟨2, ![a, b]⟩) (j : (⟨2, ![a, b]⟩ : Shape).Idx) :
    (((Rect.unit (s := ⟨3, ![N, a, b]⟩) ![lo, 0, 0] ![1, a, b] inb).emb (Shape.reshapeEquiv h j)) 1).val = (j 0).val
    ∧ (((Rect.unit (s := ⟨3, ![N, a, b]⟩) ![lo, 0, 0] ![1, a, b] inb).emb (Shape.reshapeEquiv h j)) 2).val = (j 1).val := by
  have e : (Shape.reshapeEquiv h j : (⟨3, ![1, a, b]⟩ : Shape).Idx) = Fin.cons ⟨0, Nat.one_pos⟩ j := addUnit_idx ![a, b] h j
  rw [e]
  refine ⟨(ValueKit.rect_emb_unit_val (s := ⟨3, ![N, a, b]⟩) _ _ inb _ 1).trans ?_, (ValueKit.rect_emb_unit_val (s := ⟨3, ![N, a, b]⟩) _ _ inb _ 2).trans ?_⟩
  · exact Nat.zero_add _
  · exact Nat.zero_add _

theorem fV_emb (b : Fin 2) (j : S512x2048.Idx) :
    (((fV b).view.emb j : S2x512x2048.Idx) 1).val = (j 0).val ∧ (((fV b).view.emb j : S2x512x2048.Idx) 2).val = (j 1).val :=
  slot_emb 2 512 2048 b.val (slotF_inb b) _ j
theorem sV_emb (b : Fin 4) (j : S512x1024.Idx) :
    (((sV b).view.emb j : S4x512x1024.Idx) 1).val = (j 0).val ∧ (((sV b).view.emb j : S4x512x1024.Idx) 2).val = (j 1).val :=
  slot_emb 4 512 1024 b.val (slotS_inb b) _ j
theorem kV_emb (b : Fin 2) (j : S512x1024.Idx) :
    (((kV b).view.emb j : S2x512x1024.Idx) 1).val = (j 0).val ∧ (((kV b).view.emb j : S2x512x1024.Idx) 2).val = (j 1).val :=
  slot_emb 2 512 1024 b.val (slotK_inb b) _ j

/-! ## What the movements leave -/

theorem xat_eq (c : Dev nD) (r k : ℕ) (i : S16384x2048.Idx) (h0 : (i 0).val = r) (h1 : (i 1).val = k) : xat m c r k = m (xL c) i := by
  subst h0; subst h1
  unfold xat
  congr 1
  funext a
  match a with
  | ⟨0, _⟩ => exact Fin.ext (Nat.mod_eq_of_lt (i 0).isLt)
  | ⟨1, _⟩ => exact Fin.ext (Nat.mod_eq_of_lt (i 1).isLt)

theorem xat_mod (c : Dev nD) (r r' k k' : ℕ) (h : r % 16384 = r' % 16384) (hk : k = k') : xat m c r k = xat m c r' k' := by
  subst hk
  unfold xat
  congr 1
  funext a
  match a with
  | ⟨0, _⟩ => exact Fin.ext h
  | ⟨1, _⟩ => rfl

/-- Loading chunk `i` fills the slot with it. -/
theorem ld_val (c : Dev nD) (i : Fin 32) (fd : Buf (Elt F) (fL c)) : ∀ a ∈ (fV (m2 i.val)).view.set,
    (fV (m2 i.val)).view.write (Elt F) fd ((xV c i).view.read (Elt F) (m (xL c))) Finset.univ a = vfC m c i.val a := by
  refine write_val (F := F) (fV (m2 i.val)).view fd (vfC m c i.val) _ fun j => ?_
  have e := fV_emb (m2 i.val) j
  have e' := xV_emb c i j
  exact xat_eq m c _ _ _ (e'.1.trans (congrArg (row0 c i.val + ·) e.1.symm)) (e'.2.trans e.2.symm)

/-- The stored half is the loaded half rounded, element by element. -/
theorem castPay_apply (v : Vec F S1x512x1024 .f32) (x : S1x512x1024.Idx) : castPay v x = rnd (v x) := by
  have h := congrFun (shapeCast_shapeCast (fun i : S1x512x1024.Idx => i) shapeCasts_S1x512x1024_S512x1024 shapeCasts_S512x1024_S1x512x1024) x
  exact congrArg (fun y => FloatOps.truncf .bf16 bitsLt_bf16_f32 (v y)) h

theorem halfS_val (c : Dev nD) (i : Fin 11) (x : S1x512x1024.Idx) :
    (fM.view.readAt (Elt F) (Rect.unit (s := S2x512x2048) (halfS c i.val) S1x512x1024.size (halfS_inb c i.val)).toLoadRect (vfC m c i.val) x : F .f32)
      = xat m c (row0 c i.val + (x 1).val) (1024 * (1 - xc c) + (x 2).val) := by
  have h := fun a => ValueKit.rect_emb_unit_val (s := S2x512x2048) (halfS c i.val) S1x512x1024.size (halfS_inb c i.val) x a
  have e := halfS_eq c (up i)
  exact congrArg₂ (xat m c) (congrArg (row0 c i.val + ·) (((h 1).trans (congrArg (· + (x 1).val) (congrFun e 1))).trans (Nat.zero_add _)))
    ((h 2).trans (congrArg (· + (x 2).val) (congrFun e 2)))

theorem halfK_val (c : Dev nD) (i : Fin 32) (x : S1x512x1024.Idx) :
    (fM.view.readAt (Elt F) (Rect.unit (s := S2x512x2048) (halfK c i.val) S1x512x1024.size (halfK_inb c i.val)).toLoadRect (vfC m c i.val) x : F .f32)
      = xat m c (row0 c i.val + (x 1).val) (1024 * xc c + (x 2).val) := by
  have h := fun a => ValueKit.rect_emb_unit_val (s := S2x512x2048) (halfK c i.val) S1x512x1024.size (halfK_inb c i.val) x a
  have e := halfK_eq c i
  exact congrArg₂ (xat m c) (congrArg (row0 c i.val + ·) (((h 1).trans (congrArg (· + (x 1).val) (congrFun e 1))).trans (Nat.zero_add _)))
    ((h 2).trans (congrArg (· + (x 2).val) (congrFun e 2)))

/-- Storing the partner's half fills the send slot with it. -/
theorem castS_val (c : Dev nD) (i : Fin 11) (fd : Buf (Elt F) (sL c)) : ∀ a ∈ (sM.access (rS (m4 i.val))).set,
    (sM.access (rS (m4 i.val))).write (Elt F) fd (castPay (fM.view.readAt (Elt F)
      (Rect.unit (s := S2x512x2048) (halfS c i.val) S1x512x1024.size (halfS_inb c i.val)).toLoadRect (vfC m c i.val))) Finset.univ a = vsC m c i.val a := by
  refine write_val (F := F) (sM.access (rS (m4 i.val))) fd (vsC m c i.val) _ fun x => ?_
  have h := fun a => ValueKit.rect_emb_unit_val (s := S4x512x1024) ![(m4 i.val).val, 0, 0] S1x512x1024.size (slotS_inb (m4 i.val)) x a
  refine Eq.trans ?_ (castPay_apply _ x).symm
  rw [halfS_val]
  exact congrArg rnd (congrArg₂ (xat m c) (congrArg (row0 c i.val + ·) ((h 1).trans (Nat.zero_add _)))
    (congrArg (1024 * (1 - xc c) + ·) ((h 2).trans (Nat.zero_add _))))

/-- Storing the own half fills the keep slot with it. -/
theorem castK_val (c : Dev nD) (i : Fin 32) (fd : Buf (Elt F) (kL c)) : ∀ a ∈ (kM.access (rK (m2 i.val))).set,
    (kM.access (rK (m2 i.val))).write (Elt F) fd (castPay (fM.view.readAt (Elt F)
      (Rect.unit (s := S2x512x2048) (halfK c i.val) S1x512x1024.size (halfK_inb c i.val)).toLoadRect (vfC m c i.val))) Finset.univ a = vkC m c i.val a := by
  refine write_val (F := F) (kM.access (rK (m2 i.val))) fd (vkC m c i.val) _ fun x => ?_
  have h := fun a => ValueKit.rect_emb_unit_val (s := S2x512x1024) ![(m2 i.val).val, 0, 0] S1x512x1024.size (slotK_inb (m2 i.val)) x a
  refine Eq.trans ?_ (castPay_apply _ x).symm
  rw [halfK_val]
  exact congrArg rnd (congrArg₂ (xat m c) (congrArg (row0 c i.val + ·) ((h 1).trans (Nat.zero_add _)))
    (congrArg (1024 * xc c + ·) ((h 2).trans (Nat.zero_add _))))

/-- The result at an element whose row and column are known. -/
theorem outC_eq (d c : Dev nD) (j : S32768x1024.Idx) (row r k col : ℕ) (hr : (j 0).val = row) (hs : srcDev d row = c)
    (hm : row % 16384 = r % 16384) (hc : 1024 * xc d + (j 1).val = col) : outC m d j = rnd (xat m c r col) := by
  subst hr; subst hc; subst hs
  exact congrArg rnd (xat_mod m _ _ _ _ _ (by rw [Nat.mod_mod]; exact hm) rfl)

/-- Storing the own half of chunk `i` fills its rows of the result. -/
theorem st_val (c : Dev nD) (i : Fin 32) (fd : Buf (Elt F) (oL c)) : ∀ a ∈ (oV c i).view.set,
    (oV c i).view.write (Elt F) fd ((kV (m2 i.val)).view.read (Elt F) (vkC m c i.val)) Finset.univ a = outC m c a := by
  refine write_val (F := F) (oV c i).view fd (outC m c) _ fun j => ?_
  have e := kV_emb (m2 i.val) j
  have e' := oV_emb c i j
  have hl := row0_lt c i.val i.isLt
  have hj : (j 0).val < 512 := (j 0).isLt
  refine outC_eq m c c _ (16384 * xc c + (row0 c i.val + (j 0).val)) (row0 c i.val + (((kV (m2 i.val)).view.emb j : S2x512x1024.Idx) 1).val) 0
    (1024 * xc c + (((kV (m2 i.val)).view.emb j : S2x512x1024.Idx) 2).val) ?_ (srcDev_own c _ (by omega)) ?_ ?_
  · rw [← Nat.add_assoc]; exact e'.1
  · rw [e.1, Nat.mul_add_mod]
  · rw [e.2]; exact congrArg (1024 * xc c + ·) e'.2

/-- Sending the partner's half of chunk `i` fills its rows of the partner's result. -/
theorem xs_val (c : Dev nD) (i : Fin 11) (fd : Buf (Elt F) (oL (par c))) : ∀ a ∈ (oV c (up i)).view.set,
    (oV c (up i)).view.write (Elt F) fd ((sV (m4 i.val)).view.read (Elt F) (vsC m c i.val)) Finset.univ a = outC m (par c) a := by
  refine write_val (F := F) (oV c (up i)).view fd (outC m (par c)) _ fun j => ?_
  have e := sV_emb (m4 i.val) j
  have e' := oV_emb c (up i) j
  have hj : (j 0).val < 512 := (j 0).isLt
  refine outC_eq m (par c) c _ (16384 * xc c + (row0 c i.val + (j 0).val)) (row0 c i.val + (((sV (m4 i.val)).view.emb j : S4x512x1024.Idx) 1).val) 0
    (1024 * (1 - xc c) + (((sV (m4 i.val)).view.emb j : S4x512x1024.Idx) 2).val) ?_ (srcDev_par c _ _ i.isLt hj) ?_ ?_
  · rw [← Nat.add_assoc]; exact e'.1
  · rw [e.1, Nat.mul_add_mod]
  · rw [e.2, xc_par]; exact congrArg (1024 * (1 - xc c) + ·) e'.2

/-- On rows handed round a ring two of its devices have the same result. -/
theorem outC_ring (c c' : Dev nD) (j : S32768x1024.Idx) (h : xc c = xc c') (h1 : (j 0).val / 16384 ≠ xc c) (h2 : (j 0).val % 16384 < 12288) :
    outC m c j = outC m c' j := by
  unfold outC
  show rnd (xat m (srcDev c (j 0).val) _ (1024 * xc c + _)) = rnd (xat m (srcDev c' (j 0).val) _ (1024 * xc c' + _))
  rw [srcDev_ring c c' _ h h1 h2, h]

/-- Contents written through a view from the same view of another device's buffer. -/
theorem pass_val {κ : Kind} {sp : Space} {s : Shape} {e : EltTy} (v : View sig κ sp s e) (f g g' : v.ty.Contents (Elt F))
    (h : ∀ i ∈ v.set, g i = g' i) : ∀ i ∈ v.set, v.write (Elt F) f (v.read (Elt F) g) Finset.univ i = g' i := by
  refine write_val v f g' _ fun j => ?_
  rw [View.read_apply, cast_cast, cast_eq]
  exact (h _ (Finset.mem_map_of_mem _ (Finset.mem_univ j))).symm

theorem cw_val (c : Dev nD) (k : Fin 14) (fd : Buf (Elt F) (oL (nxt c))) : ∀ a ∈ (cwV c k).view.set,
    (cwV c k).view.write (Elt F) fd ((cwV c k).view.read (Elt F) (outC m c)) Finset.univ a = outC m (nxt c) a := by
  refine pass_val (F := F) (cwV c k).view fd (outC m c) (outC m (nxt c)) fun a ha => ?_
  rw [cwV_set, mem_band] at ha
  obtain ⟨t, ht⟩ := Nat.exists_eq_add_of_le ha.1
  have hb := cwRow_bounds c k.val t (by omega)
  rw [← ht] at hb
  have := xc_lt c
  exact outC_ring m c (nxt c) a (xc_nxt c).symm (by rw [hb.1]; omega) hb.2

theorem ccw_val (c : Dev nD) (k : Fin 14) (fd : Buf (Elt F) (oL (prv c))) : ∀ a ∈ (ccwV c k).view.set,
    (ccwV c k).view.write (Elt F) fd ((ccwV c k).view.read (Elt F) (outC m c)) Finset.univ a = outC m (prv c) a := by
  refine pass_val (F := F) (ccwV c k).view fd (outC m c) (outC m (prv c)) fun a ha => ?_
  rw [ccwV_set, mem_band] at ha
  obtain ⟨t, ht⟩ := Nat.exists_eq_add_of_le ha.1
  have hb := ccwRow_bounds c k.val t (by omega)
  rw [← ht] at hb
  have := xc_lt c
  exact outC_ring m c (prv c) a (xc_prv c).symm (by rw [hb.1]; omega) hb.2

end Cert.KernelIdeal.Ring

end
-- ==== Proof.KernelIdeal.Steps.lean ====
/-
Each kind of operation of the kernel, run at device `c` from what the plan says it takes to what the plan says it gives.
-/
module

public import proofs.«01_k».proof.Proof.KernelIdeal.Vals
public import Idealize.ShloMosaic.Lib.Pipeline.Launch
public import Idealize.ShloMosaic.Lib.Pipeline.Kit
public import Idealize.ShloMosaic.Lib.Tactic

@[expose] public section

set_option backward.proofsInPublic true

noncomputable section

namespace Cert.KernelIdeal.Ring

open Cert.KernelIdeal Cert.KernelIdeal.Gen Cert.Geo Cert.Plan Cert.Plan.Atom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The kernel run at device `c`. -/
abbrev WP (c : Dev nD) (Q : PUnit → sProp 𝕄) (p : PR F) : sProp 𝕄 := wp frame (wpE (defs₀ (F := F)) 𝒱₀ (c : Thread nD τ) none) Set.univ p Q

/-! ## Names and lists -/

omit [FloatOps F] in
theorem sepL_congr (P Q : Atom → sProp 𝕄) (l : List Atom) (h : ∀ a ∈ l, P a = Q a) : sepL P l = sepL Q l := by
  induction l with
  | nil => rfl
  | cons a l ih =>
    show iprop(P a ∗ sepL P l) = iprop(Q a ∗ sepL Q l)
    rw [h a List.mem_cons_self, ih fun b hb => h b (List.mem_cons_of_mem _ hb)]

/-- The first sixteen kinds are parts of buffers. -/
theorem interp_mem (c : Dev nD) (a : Atom) (h : a.kind < 16) : interp m c a = mem m c a := by
  unfold interp; split <;> first | rfl | omega

theorem pay_kind (s d : ℕ) : ∀ a ∈ pay s d, a.kind < 16 := by
  intro a ha
  unfold Cert.Plan.pay at ha
  split_ifs at ha <;> simp only [List.mem_cons, List.not_mem_nil, or_false, List.mem_map] at ha <;>
    first
    | (rcases ha with rfl | rfl <;> first | exact show (2 : ℕ) < 16 by decide | exact show (0 : ℕ) < 16 by decide | exact show (8 : ℕ) < 16 by decide | exact show (5 : ℕ) < 16 by decide)
    | (subst ha; first | exact show (3 : ℕ) < 16 by decide | exact show (13 : ℕ) < 16 by decide | exact show (14 : ℕ) < 16 by decide | exact show (15 : ℕ) < 16 by decide)
    | (obtain ⟨_, -, rfl⟩ := ha; first | exact show (9 : ℕ) < 16 by decide | exact show (10 : ℕ) < 16 by decide | exact show (11 : ℕ) < 16 by decide)

theorem interp_pay (c : Dev nD) (s d : ℕ) : sepL (interp m c) (pay s d) = sepL (mem m c) (pay s d) :=
  sepL_congr _ _ _ fun a ha => interp_mem m c a (pay_kind s d a ha)

/-! ## Waiting -/

/-- A device owes only what its list says. -/
theorem dueO_pos (c : Dev nD) : ∀ (ds : List (ℕ × ℕ)) (g : GSem nD τ sig) (ι : Unit), 0 < dueO c ds g ι →
    ∃ p ∈ ds, g = cellAt (tdev c p.1 p.2) p.1
  | [], g, ι, h => absurd h (Nat.lt_irrefl 0)
  | p :: ds, g, ι, h => by
    by_cases hg : g = cellAt (tdev c p.1 p.2) p.1
    · exact ⟨p, List.mem_cons_self, hg⟩
    · have h' : 0 < dueO c ds g ι + tallyAt (cellAt (tdev c p.1 p.2) p.1) () (amt p.1) g ι := h
      rw [tallyAt_apply, if_neg (fun h => hg h.1)] at h'
      obtain ⟨q, hq, e⟩ := dueO_pos c ds g ι h'
      exact ⟨q, List.mem_cons_of_mem _ hq, e⟩

theorem lev_semOf (s : ℕ) : lev (semIx (semOf s)) = lev s := by
  by_cases h : s < 113
  · rw [semIx_semOf s h]
  · unfold semOf; rw [dif_neg (by omega)]
    show lev 112 = lev s
    unfold lev
    rw [if_neg (show ¬ s < 45 by omega), if_neg (show ¬ s < 48 by omega), if_neg (show ¬ s < 52 by omega), if_neg (show ¬ s < 56 by omega),
      if_neg (show ¬ s < 70 by omega), if_neg (show ¬ s < 72 by omega), if_neg (show ¬ s < 84 by omega), if_neg (show ¬ s < 98 by omega),
      if_neg (show ¬ s < 100 by omega), if_neg (show ¬ s < 112 by omega)]
    rfl

/-- A wait the plan allows is below everything the device owes. -/
theorem mayWait_of (c : Dev nD) (s r : ℕ) (ds : List (ℕ × ℕ)) (h : waitOk (some (s, r)) ds = true) :
    (levAts L lv : sProp 𝕄) ⊢ MayWait (c : Thread nD τ) (semOf s) () (dueO c ds) := by
  have hds : ∀ p ∈ ds, lev s < lev p.1 := by
    intro p hp
    have := List.all_eq_true.1 (show (ds.all fun d => Nat.blt (lev s) (lev d.1)) = true from h) p hp
    rwa [Nat.blt_eq] at this
  refine MayOwe.of_cut (L := L) (lev := lv) (lev s) (fun p hp => ?_) (fun g u hg => ?_) (fun p hp => ?_) (fun g u hg => ?_)
  · rw [Finset.mem_singleton.mp hp]; exact Finset.mem_singleton_self _
  · obtain ⟨p, -, rfl⟩ := dueO_pos c ds g u hg; exact Finset.mem_singleton_self _
  · rw [Finset.mem_singleton.mp hp]; exact Nat.le_of_eq (lev_semOf s)
  · obtain ⟨p, hp, rfl⟩ := dueO_pos c ds g u hg
    exact Nat.lt_of_lt_of_eq (hds p hp) (lev_semOf p.1).symm

/-- What a round's duties hand over, as the plan lists it. -/
theorem payAll_of (c : Dev nD) (s r : ℕ) (hs : s < 113) (hr : r < rounds s) :
    bigSep ((Rd (F := F) m).duties (cellAt c s) r \ ∅) (fun d => (Rd m).payload (cellAt c s) r d) ⊢ sepL (interp m c) (payAll s r) := by
  rw [Finset.sdiff_empty, Rd_duties m c s r hs, bigSep_congr fun d _ => Rd_payload m c s r d hs]
  unfold rounds at hr
  unfold dutyOf payAll
  by_cases h2 : s < 2
  · rw [if_pos h2] at hr
    rw [if_pos h2, if_pos h2, if_pos hr, bigSep_singleton, interp_pay]
  · rw [if_neg h2] at hr
    rw [if_neg h2, if_neg h2, if_pos (by omega)]
    by_cases h3 : s < 112
    · rw [if_pos h3, if_pos h3, bigSep_singleton, interp_pay]
    · rw [if_neg h3, if_neg h3, bigSep_insert (by decide), bigSep_insert (by decide), bigSep_singleton]
      rw [← interp_pay, ← interp_pay, ← interp_pay]
      show iprop(sepL (interp m c) (Cert.Plan.pay s 0) ∗ sepL (interp m c) (Cert.Plan.pay s 1) ∗ sepL (interp m c) (Cert.Plan.pay s 2)) ⊢ _
      iintro ⟨H0, H1, H2⟩
      iapply (sepL_append _ _ _).2
      isplitl [H0]; · iexact H0
      iapply (sepL_append _ _ _).2
      isplitl [H1] <;> iassumption

/-- A wait for a whole round. -/
theorem wait_step (K : Key → ℕ) (c : Dev nD) (s r : ℕ) (hs : s < 113) (hr : r < rounds s) (sm : SemLoc sig) (hsm : sm = semOf s)
    (w : TpuEff nD τ sig (Elt F) Λ₀ .tc PUnit) (hw : ∀ K' : PUnit → sProp 𝕄,
      wpE (defs₀ (F := F)) 𝒱₀ (c : Thread nD τ) none Set.univ w K' = waitSpec (c : Thread nD τ) Set.univ sm (need s) K')
    (dues : List (ℕ × ℕ)) (hok : waitOk (some (s, r)) dues = true) (k : PUnit → PR F) (Q : PUnit → sProp 𝕄) :
    iprop(records m K ∗ levAts L lv ∗ sepL (interp m c) [pos s r, Atom.cred s] ∗ owesE (F := F) c dues)
      ⊢ iprop((sepL (interp m c) (pos s (r + 1) :: rch s (r + 1) :: payAll s r) ∗ owesE (F := F) c dues -∗ WP c Q (k ⟨⟩)) -∗ WP c Q (.op w k)) := by
  subst hsm
  show iprop(records m K ∗ levAts L lv ∗ (atPos ER (cellAt c s) r ∅ 0 ∗ cred (tallyAt (cellAt c s) () (need s)) ∗ emp) ∗ (∃ W, owes (c : Thread nD τ) (dueO c dues) W))
    ⊢ iprop(((atPos ER (cellAt c s) (r + 1) ∅ 0 ∗ reached ER (cellAt c s) (r + 1) ∗ sepL (interp m c) (payAll s r)) ∗ owesE (F := F) c dues -∗ WP c Q (k ⟨⟩)) -∗ WP c Q (.op w k))
  iintro ⟨#HR, #HL, ⟨Hat, Hc, -⟩, ⟨%W, HO⟩⟩ Hk
  ihave #HI := (records_get m K c s hs) $$ HR
  icases HI with ⟨#HI, -⟩
  iapply (Rounds.wp_wait_rest_token 𝒱₀ ER (Rd m) (c : Thread nD τ) none (κ := K (c, ⟨s, hs⟩)) hw (Set.mem_univ _) () (O := dueO c dues) (W := W)
      (R := r) (m := 0) (T := ∅) (by rw [Nat.zero_add]; exact (Rd_expect m c s r hs hr).symm)) $$ [Hc HO Hat]
  · isplitr; · iexact HI
    isplitl [Hc]; · iexact Hc
    isplitl [HO]; · iexact HO
    isplitr; · iapply (mayWait_of c s r dues hok); iexact HL
    iexact Hat
  iintro ⟨HO, Hat, Hr, Hpay⟩
  iapply Hk
  isplitl [Hat Hr Hpay]
  · isplitl [Hat]; · iexact Hat
    isplitl [Hr]; · iexact Hr
    iapply (payAll_of m c s r hs hr); iexact Hpay
  unfold owesE
  iexists _; iexact HO

/-! ## Signals, copies and transfers -/

/-- A memref as the target of a copy within the device, and of a transfer to device `n`. -/
abbrev toHere {sp : Space} {sh : Shape} {e : EltTy} (dst : Memref sig .tc sp sh e) : DmaTarget nD τ sig (.tc : Proc τ) sp sh e := .here dst
abbrev toDev {sp : Space} {sh : Shape} {e : EltTy} (n : Dev nD) (dst : Memref sig .tc sp sh e) (s : SemLoc sig) (h : dst.view.ref.isScScratch = false) :
    DmaTarget nD τ sig (.tc : Proc τ) sp sh e := .remote (Dev.tc n : Thread nD τ) dst s h

/-- A copy within the device: its duty is the device's own. -/
theorem copy_step (K : Key → ℕ) (c : Dev nD) (s a : ℕ) (hs : s < 45) (ha : a ∈ dutyOf s (rOf s a)) {sp sp' : Space} {sh : Shape} {e : EltTy}
    (sem : DmaSem sig) (hsem : SemLoc.dma sem = semOf s) (src : Memref sig .tc sp sh e) (dst : Memref sig .tc sp' sh e)
    (h1 : src.view.WordExact) (h2 : dst.view.WordExact) (h3 : DmaTarget.Typed (nD := nD) sp (.dma sem) (toHere dst))
    (hamt : dst.view.dmaCredit = amt s)
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ sepL (mem m c) (pay s a)) (k : PUnit → PR F) (Q : PUnit → sProp 𝕄) :
    iprop(records m K ∗ (src.view.loc (c : Thread nD τ) ↦[src.view.set]{fullShare} fs) ∗ (dst.view.loc (c : Thread nD τ) ↦[dst.view.set]{fullShare} fd)
        ∗ interp m c (tok s a) ∗ reached ER (cellAt c s) (rOf s a))
      ⊢ iprop((interp m c (Atom.cred s) -∗ WP c Q (k ⟨⟩)) -∗ WP c Q (.op (.enqueueDma src (toHere dst) (.dma sem) h1 h2 h3) k)) := by
  have ht : tdev c s a = c := by unfold tdev; rw [if_pos hs]
  have hn : need s = amt s := by unfold need; rw [if_pos (by omega)]
  show iprop(records m K ∗ (src.view.loc (c : Thread nD τ) ↦[src.view.set]{fullShare} fs) ∗ (dst.view.loc (c : Thread nD τ) ↦[dst.view.set]{fullShare} fd)
        ∗ dutyTok ER (cellAt (tdev c s a) s) (rOf s a) a ∗ reached ER (cellAt c s) (rOf s a))
      ⊢ iprop((cred (tallyAt (cellAt c s) () (need s)) -∗ WP c Q (k ⟨⟩)) -∗ WP c Q (.op (.enqueueDma src (toHere dst) (.dma sem) h1 h2 h3) k))
  have hg : cellAt c s = ((c : Thread nD τ), SemLoc.dma sem) := by rw [hsem]
  rw [ht, hn]
  iintro ⟨#HR, Hs, Hd, Ht, Hr⟩
  ihave #HI := (records_get m K c s (by omega)) $$ HR
  icases HI with ⟨#HI, -⟩
  have hd' := Rd_duties m c s (rOf s a) (by omega)
  have ha' := Rd_amount m c s (rOf s a) a (by omega)
  have hp' := Rd_payload m c s (rOf s a) a (by omega)
  rw [hg] at hd' ha' hp'
  rw [hg]
  iapply (Rounds.wp_copy_pointsTo 𝒱₀ ER (Rd m) (c : Thread nD τ) none (κ := K (c, ⟨s, by omega⟩)) (r := rOf s a) (d := a) (q := fullShare) (fs := fs) (fd := fd) (src := src) (dst := dst) (sem := .dma sem)
    (by rw [hd']; exact ha) () (amt s) hamt ha' (by rw [hp']; exact hpay)) $$ [Hs Hd Ht Hr]
  isplitr; · iexact HI
  isplitl [Hs]; · iexact Hs
  isplitl [Hd]; · iexact Hd
  isplitl [Ht] <;> iassumption

/-- A transfer to another device: duty 0 of a semaphore of the own device, and of one of the other's. -/
theorem send_step (K : Key → ℕ) (c n : Dev nD) (s t : ℕ) (hs : 2 ≤ s ∧ s < 112) (ht : 2 ≤ t ∧ t < 112) (hcs : tdev c s 0 = c) (hnt : tdev c t 0 = n)
    {sp sp' : Space} {sh : Shape} {e : EltTy}
    (sem sem' : DmaSem sig) (hsem : SemLoc.dma sem = semOf s) (hsem' : SemLoc.dma sem' = semOf t)
    (n' : Dev nD) (hn' : n' = n) (src : Memref sig .tc sp sh e) (dst : Memref sig .tc sp' sh e) (hsc : dst.view.ref.isScScratch = false)
    (h1 : src.view.WordExact) (h2 : dst.view.WordExact) (h3 : DmaTarget.Typed (nD := nD) sp (.dma sem') (toDev n' dst (.dma sem) hsc))
    (hamt : dst.view.dmaCredit = amt s) (hamt' : amt t = amt s) (fs : Buf (Elt F) (src.view.loc (c : Thread nD τ))) (fd : Buf (Elt F) (dst.view.loc (n : Thread nD τ)))
    (hpay : (src.view.loc (c : Thread nD τ) ↦[src.view.set]{fullShare} fs) ⊢ sepL (mem m c) (pay s 0))
    (hpay' : (dst.view.loc (n : Thread nD τ) ↦[dst.view.set]{fullShare} (dst.view.write (Elt F) fd (src.view.read (Elt F) fs) Finset.univ)) ⊢ sepL (mem m n) (pay t 0))
    (ds : List (ℕ × ℕ)) (k : PUnit → PR F) (Q : PUnit → sProp 𝕄) :
    iprop(records m K ∗ (src.view.loc (c : Thread nD τ) ↦[src.view.set]{fullShare} fs) ∗ (dst.view.loc (n : Thread nD τ) ↦[dst.view.set]{fullShare} fd)
        ∗ interp m c (tok s 0) ∗ interp m c (tok t 0) ∗ owesE (F := F) c ((t, 0) :: ds))
      ⊢ iprop((interp m c (Atom.cred s) ∗ owesE (F := F) c ds -∗ WP c Q (k ⟨⟩))
        -∗ WP c Q (.op (.enqueueDma src (toDev n' dst (.dma sem) hsc) (.dma sem') h1 h2 h3) k)) := by
  subst hn'
  have hn : need s = amt s := by unfold need; rw [if_pos (by omega)]
  have r0 : rOf s 0 = 0 := by unfold rOf; rw [if_neg (by omega)]
  have r0' : rOf t 0 = 0 := by unfold rOf; rw [if_neg (by omega)]
  show iprop(records m K ∗ (src.view.loc (c : Thread nD τ) ↦[src.view.set]{fullShare} fs) ∗ (dst.view.loc (n' : Thread nD τ) ↦[dst.view.set]{fullShare} fd)
        ∗ dutyTok ER (cellAt (tdev c s 0) s) (rOf s 0) 0 ∗ dutyTok ER (cellAt (tdev c t 0) t) (rOf t 0) 0
        ∗ (∃ W, owes (c : Thread nD τ) (dueO c ds + tallyAt (cellAt (tdev c t 0) t) () (amt t)) W))
      ⊢ iprop((cred (tallyAt (cellAt c s) () (need s)) ∗ owesE (F := F) c ds -∗ WP c Q (k ⟨⟩))
        -∗ WP c Q (.op (.enqueueDma src (toDev n' dst (.dma sem) hsc) (.dma sem') h1 h2 h3) k))
  have hg : cellAt c s = ((c : Thread nD τ), SemLoc.dma sem) := by rw [hsem]
  have hg' : cellAt n' t = ((n' : Thread nD τ), SemLoc.dma sem') := by rw [hsem']
  rw [hcs, hnt, r0, r0', hn, hamt']
  iintro ⟨#HR, Hs, Hd, Ht, Ht', ⟨%W, HO⟩⟩ Hk
  ihave #HI := (records_get m K c s (by omega)) $$ HR
  icases HI with ⟨#HI, #Hr⟩
  ihave #HI' := (records_get m K n' t (by omega)) $$ HR
  icases HI' with ⟨#HI', #Hr'⟩
  have hd₁ := Rd_duties m c s 0 (by omega)
  have ha₁ := Rd_amount m c s 0 0 (by omega)
  have hp₁ := Rd_payload m c s 0 0 (by omega)
  have hd₂ := Rd_duties m n' t 0 (by omega)
  have ha₂ := Rd_amount m n' t 0 0 (by omega)
  have hp₂ := Rd_payload m n' t 0 0 (by omega)
  have d₁ : dutyOf s 0 = {0} := by unfold dutyOf; rw [if_neg (by omega), if_pos rfl, if_pos (by omega)]
  have d₂ : dutyOf t 0 = {0} := by unfold dutyOf; rw [if_neg (by omega), if_pos rfl, if_pos (by omega)]
  rw [d₁] at hd₁
  rw [d₂] at hd₂
  rw [hg] at hd₁ ha₁ hp₁
  rw [hg'] at hd₂ ha₂ hp₂
  rw [hg, hg']
  iapply (Rounds.wp_send_pointsTo 𝒱₀ ER (Rd m) (c : Thread nD τ) none (c' := (n' : Thread nD τ)) (κ₁ := K (c, ⟨s, by omega⟩)) (κ₂ := K (n', ⟨t, by omega⟩))
    (r₁ := 0) (r₂ := 0) (d₁ := 0) (d₂ := 0) (q := fullShare) (fs := fs) (fd := fd) (src := src) (dst := dst) (sS := .dma sem) (sem := .dma sem')
    (by rw [hd₁]; exact Finset.mem_singleton_self _) (by rw [hd₂]; exact Finset.mem_singleton_self _) () () (amt s) hamt ha₁ (ha₂.trans hamt')
    (dueO c ds) rfl (W := W) (by rw [hp₁]; exact hpay) (by rw [hp₂]; exact hpay')) $$ [Hs Hd Ht Ht' HO]
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  unfold owesE
  iexists _; iexact HO

end Cert.KernelIdeal.Ring

end
-- ==== Proof.KernelIdeal.Ops.lean ====
/-
Every operation of the plan does at device `c` what the plan says.
-/
module

public import proofs.«01_k».proof.Proof.KernelIdeal.Steps

@[expose] public section

set_option backward.proofsInPublic true

noncomputable section

namespace Cert.KernelIdeal.Ring

open Cert.KernelIdeal Cert.KernelIdeal.Gen Cert.Geo Cert.Plan Cert.Plan.Atom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Operation `o` takes at device `c` what the plan says and gives what the plan says. -/
def StepOK (c : Dev nD) (o : Op) : Prop :=
  ∀ (K : Key → ℕ) (dues ds : List (ℕ × ℕ)) (k : PR F) (Q : PUnit → sProp 𝕄), popDue o.due dues = some ds → waitOk o.wait dues = true →
    iprop(records m K ∗ levAts L lv ∗ sepL (interp m c) o.pre ∗ owesE (F := F) c dues)
      ⊢ iprop((sepL (interp m c) o.post ∗ owesE (F := F) c ds -∗ WP c Q k) -∗ WP c Q ((instr c o).bind fun _ => k))

/-! ## Amounts -/

theorem amt_lo {s : ℕ} (h : s < 2) : amt s = nL := by unfold amt; rw [if_pos h]
theorem amt_mid {s : ℕ} (h : 2 ≤ s) (h' : s < 56) : amt s = nX := by unfold amt; rw [if_neg (by omega), if_pos h']
theorem amt_hi {s : ℕ} (h : 56 ≤ s) (h' : s < 112) : amt s = nP := by unfold amt; rw [if_neg (by omega), if_neg (by omega), if_pos h']
theorem need_lt {s : ℕ} (h : s < 112) : need s = amt s := by unfold need; rw [if_pos h]
theorem rounds_ge {s r : ℕ} (h : 2 ≤ s) (hr : r = 0) : r < rounds s := by unfold rounds; rw [if_neg (by omega)]; omega

theorem credit_fV (j : Fin 2) : (fV j).view.dmaCredit = nL := rfl
theorem credit_sV (j : Fin 4) : (sV j).view.dmaCredit = nX := rfl
theorem credit_kV (j : Fin 2) : (kV j).view.dmaCredit = nX := rfl
theorem credit_oV (c : Dev nD) (i : Fin 32) : (oV c i).view.dmaCredit = nX := rfl
theorem credit_cwV (c : Dev nD) (k : Fin 14) : (cwV c k).view.dmaCredit = nP := rfl
theorem credit_ccwV (c : Dev nD) (k : Fin 14) : (ccwV c k).view.dmaCredit = nP := rfl
theorem credit_cwrV (c : Dev nD) (k : Fin 14) : (cwrV c k).view.dmaCredit = nP := rfl
theorem credit_ccwrV (c : Dev nD) (k : Fin 14) : (ccwrV c k).view.dmaCredit = nP := rfl

/-! ## Waits -/

/-- A wait for a transfer, when the buffer named counts as a whole round. -/
theorem dma_wait (K : Key → ℕ) (c : Dev nD) (s r : ℕ) (hs : s < 112) (hr : r < rounds s) (sem : DmaSem sig) (hsem : SemLoc.dma sem = semOf s)
    {sp sp' : Space} {sh sh' : Shape} {e e' : EltTy} (src : Memref sig .tc sp sh e) (dst : Memref sig .tc sp' sh' e')
    (h1 : src.view.WordExact) (h2 : dst.view.WordExact) (hn : dst.view.dmaCredit = amt s)
    (dues : List (ℕ × ℕ)) (hok : waitOk (some (s, r)) dues = true) (k : PUnit → PR F) (Q : PUnit → sProp 𝕄) :
    iprop(records m K ∗ levAts L lv ∗ sepL (interp m c) [pos s r, Atom.cred s] ∗ owesE (F := F) c dues)
      ⊢ iprop((sepL (interp m c) (pos s (r + 1) :: rch s (r + 1) :: payAll s r) ∗ owesE (F := F) c dues -∗ WP c Q (k ⟨⟩))
        -∗ WP c Q (.op (.waitDma2 sem src dst h1 h2) k)) :=
  wait_step m K c s r (by omega) hr (.dma sem) hsem (.waitDma2 sem src dst h1 h2)
    (fun K' => by rw [need_lt hs, ← hn]; exact wpE_waitDma2_eq 𝒱₀ (c : Thread nD τ) none Set.univ K') dues hok k Q

theorem step_ldw (c : Dev nD) (i : Fin 32) : StepOK m c (.ldw i) := by
  intro K dues ds k Q hp hw
  obtain rfl : dues = ds := Option.some.inj hp
  exact dma_wait m K c (i.val % 2) (i.val / 2) (by omega) (by unfold rounds; rw [if_pos (by omega)]; omega) _ (ldS_eq _) _ _ _ _
    ((credit_fV _).trans (amt_lo (by omega)).symm) dues hw (fun _ => k) Q
theorem step_xsw (c : Dev nD) (i : Fin 11) : StepOK m c (.xsw i) := by
  intro K dues ds k Q hp hw
  obtain rfl : dues = ds := Option.some.inj hp
  exact dma_wait m K c (34 + i.val) 0 (by omega) (rounds_ge (by omega) rfl) _ (xsS_eq _) _ _ _ _
    ((credit_sV _).trans (amt_mid (by omega) (by omega)).symm) dues hw (fun _ => k) Q
theorem step_xrw (c : Dev nD) (i : Fin 11) : StepOK m c (.xrw i) := by
  intro K dues ds k Q hp hw
  obtain rfl : dues = ds := Option.some.inj hp
  exact dma_wait m K c (45 + i.val) 0 (by omega) (rounds_ge (by omega) rfl) _ (xrS_eq _) _ _ _ _
    ((credit_oV c _).trans (amt_mid (by omega) (by omega)).symm) dues hw (fun _ => k) Q
theorem step_stw (c : Dev nD) (i : Fin 32) : StepOK m c (.stw i) := by
  intro K dues ds k Q hp hw
  obtain rfl : dues = ds := Option.some.inj hp
  exact dma_wait m K c (2 + i.val) 0 (by omega) (rounds_ge (by omega) rfl) _ (stS_eq _) _ _ _ _
    ((credit_oV c _).trans (amt_mid (by omega) (by omega)).symm) dues hw (fun _ => k) Q
theorem step_cwsw (c : Dev nD) (i : Fin 14) : StepOK m c (.cwsw i) := by
  intro K dues ds k Q hp hw
  obtain rfl : dues = ds := Option.some.inj hp
  exact dma_wait m K c (56 + i.val) 0 (by omega) (rounds_ge (by omega) rfl) _ (cwsS_eq _) _ _ _ _
    ((credit_cwV c _).trans (amt_hi (by omega) (by omega)).symm) dues hw (fun _ => k) Q
theorem step_cwrw (c : Dev nD) (i : Fin 14) : StepOK m c (.cwrw i) := by
  intro K dues ds k Q hp hw
  obtain rfl : dues = ds := Option.some.inj hp
  exact dma_wait m K c (70 + i.val) 0 (by omega) (rounds_ge (by omega) rfl) _ (cwrS_eq _) _ _ _ _
    ((credit_cwrV c _).trans (amt_hi (by omega) (by omega)).symm) dues hw (fun _ => k) Q
theorem step_ccwsw (c : Dev nD) (i : Fin 14) : StepOK m c (.ccwsw i) := by
  intro K dues ds k Q hp hw
  obtain rfl : dues = ds := Option.some.inj hp
  exact dma_wait m K c (84 + i.val) 0 (by omega) (rounds_ge (by omega) rfl) _ (ccwsS_eq _) _ _ _ _
    ((credit_ccwV c _).trans (amt_hi (by omega) (by omega)).symm) dues hw (fun _ => k) Q
theorem step_ccwrw (c : Dev nD) (i : Fin 14) : StepOK m c (.ccwrw i) := by
  intro K dues ds k Q hp hw
  obtain rfl : dues = ds := Option.some.inj hp
  exact dma_wait m K c (98 + i.val) 0 (by omega) (rounds_ge (by omega) rfl) _ (ccwrS_eq _) _ _ _ _
    ((credit_ccwrV c _).trans (amt_hi (by omega) (by omega)).symm) dues hw (fun _ => k) Q
theorem step_barw (c : Dev nD) : StepOK m c .barw := by
  intro K dues ds k Q hp hw
  obtain rfl : dues = ds := Option.some.inj hp
  exact wait_step m K c 112 0 (by omega) (rounds_ge (by omega) rfl) (.reg barS) rfl (.semWait barS 3)
    (fun K' => wpE_semWait_eq 𝒱₀ (c : Thread nD τ) none Set.univ K') dues hw (fun _ => k) Q

/-! ## The views as the named parts -/

theorem xR_eq (c : Dev nD) (i : Fin 32) (f : Buf (Elt F) (xL c)) :
    ((xV c i).view.loc (c : Thread nD τ) ↦[(xV c i).view.set]{fullShare} f : sProp 𝕄) = xR c (row0 c i.val) 512 f :=
  congrArg (fun S => (xL c ↦[S]{fullShare} f : sProp 𝕄)) (xV_set c i)
theorem oR_eq (d c : Dev nD) (i : Fin 32) (f : Buf (Elt F) (oL d)) :
    ((oV c i).view.loc (d : Thread nD τ) ↦[(oV c i).view.set]{fullShare} f : sProp 𝕄) = oR d (16384 * xc c + row0 c i.val) 512 f :=
  congrArg (fun S => (oL d ↦[S]{fullShare} f : sProp 𝕄)) (oV_set c i)
theorem cwR_eq (d c : Dev nD) (k : Fin 14) (f : Buf (Elt F) (oL d)) :
    ((cwV c k).view.loc (d : Thread nD τ) ↦[(cwV c k).view.set]{fullShare} f : sProp 𝕄) = oR d (cwRow c k.val) 384 f :=
  congrArg (fun S => (oL d ↦[S]{fullShare} f : sProp 𝕄)) (cwV_set c k)
theorem ccwR_eq (d c : Dev nD) (k : Fin 14) (f : Buf (Elt F) (oL d)) :
    ((ccwV c k).view.loc (d : Thread nD τ) ↦[(ccwV c k).view.set]{fullShare} f : sProp 𝕄) = oR d (ccwRow c k.val) 384 f :=
  congrArg (fun S => (oL d ↦[S]{fullShare} f : sProp 𝕄)) (ccwV_set c k)
theorem fR_eq (c : Dev nD) (i : ℕ) (f : Buf (Elt F) (fL c)) :
    ((fV (m2 i)).view.loc (c : Thread nD τ) ↦[(fV (m2 i)).view.set]{fullShare} f : sProp 𝕄) = fR c (i % 2) f :=
  congrArg (fun S => (fL c ↦[S]{fullShare} f : sProp 𝕄)) (fV_set (m2 i))
theorem sR_eq (c : Dev nD) (i : ℕ) (f : Buf (Elt F) (sL c)) :
    ((sV (m4 i)).view.loc (c : Thread nD τ) ↦[(sV (m4 i)).view.set]{fullShare} f : sProp 𝕄) = sR c (i % 4) f :=
  congrArg (fun S => (sL c ↦[S]{fullShare} f : sProp 𝕄)) (sV_set (m4 i))
theorem kR_eq (c : Dev nD) (i : ℕ) (f : Buf (Elt F) (kL c)) :
    ((kV (m2 i)).view.loc (c : Thread nD τ) ↦[(kV (m2 i)).view.set]{fullShare} f : sProp 𝕄) = kR c (i % 2) f :=
  congrArg (fun S => (kL c ↦[S]{fullShare} f : sProp 𝕄)) (kV_set (m2 i))

/-! ## Copies within the device -/

theorem pay_ld (i : ℕ) : Cert.Plan.pay (i % 2) (i / 2) = [VFc i, X i] := by
  unfold Cert.Plan.pay; rw [if_pos (by omega), show 2 * (i / 2) + i % 2 = i by omega]
theorem pay_st (i : ℕ) (h : i < 32) : Cert.Plan.pay (2 + i) 0 = [OWNf i, VK (i % 2)] := by
  unfold Cert.Plan.pay; rw [if_neg (by omega), if_pos (by omega), show 2 + i - 2 = i by omega]

theorem step_ld (c : Dev nD) (i : Fin 32) : StepOK m c (.ld i) := by
  intro K dues ds k Q hp hw
  obtain rfl : dues = ds := Option.some.inj hp
  have hr : rOf (i.val % 2) (i.val / 2) = i.val / 2 := by unfold rOf; rw [if_pos (by omega)]
  show iprop(records m K ∗ levAts L lv ∗ (xR c (row0 c i.val) 512 (m (xL c)) ∗ (∃ f, fR c (i.val % 2) f)
      ∗ interp m c (tok (i.val % 2) (i.val / 2)) ∗ reached ER (cellAt c (i.val % 2)) (i.val / 2) ∗ emp) ∗ owesE (F := F) c dues)
    ⊢ iprop(((interp m c (Atom.cred (i.val % 2)) ∗ emp) ∗ owesE (F := F) c dues -∗ WP c Q k)
      -∗ WP c Q (.op (.enqueueDma (xV c i) (toHere (fV (m2 i.val))) (.dma (ldS (m2 i.val))) (xV_words c i) (fV_words _) ⟨Or.inl rfl, trivial⟩) fun _ => k))
  iintro ⟨#HR, -, ⟨HX, ⟨%f, HF⟩, Ht, Hr, -⟩, HO⟩ Hk
  ihave HX := (Entails.of_eq (xR_eq c i (m (xL c))).symm) $$ HX
  ihave HF := (Entails.of_eq (fR_eq c i.val f).symm) $$ HF
  iapply (copy_step m K c (i.val % 2) (i.val / 2) (by omega) (by rw [hr]; unfold dutyOf; rw [if_pos (by omega), if_pos (by omega)]; exact Finset.mem_singleton_self _)
    (ldS (m2 i.val)) (ldS_eq _) (xV c i) (fV (m2 i.val)) _ _ _ ((credit_fV _).trans (amt_lo (by omega)).symm) (m (xL c)) f ?_ (fun _ => k) Q) $$ [HX HF Ht Hr]
  · rw [pay_ld]
    show _ ⊢ iprop(fR c (i.val % 2) (vfC m c i.val) ∗ xR c (row0 c i.val) 512 (m (xL c)) ∗ emp)
    rw [pointsTo_congr (ld_val m c i f)]
    iintro ⟨HF, HX⟩
    ihave HX := (Entails.of_eq (xR_eq c i (m (xL c)))) $$ HX
    ihave HF := (Entails.of_eq (fR_eq c i.val (vfC m c i.val))) $$ HF
    isplitl [HF]; · iexact HF
    isplitl [HX]; · iexact HX
    iempintro
  · isplitr; · iexact HR
    isplitl [HX]; · iexact HX
    isplitl [HF]; · iexact HF
    isplitl [Ht]; · iexact Ht
    rw [hr]; iexact Hr
  iintro Hc
  iapply Hk
  isplitl [Hc]
  · isplitl [Hc]; · iexact Hc
    iempintro
  iexact HO

theorem step_st (c : Dev nD) (i : Fin 32) : StepOK m c (.st i) := by
  intro K dues ds k Q hp hw
  obtain rfl : dues = ds := Option.some.inj hp
  have hr : rOf (2 + i.val) 0 = 0 := by unfold rOf; rw [if_neg (by omega)]
  show iprop(records m K ∗ levAts L lv ∗ (kR c (i.val % 2) (vkC m c i.val) ∗ (∃ f, oR c (16384 * xc c + row0 c i.val) 512 f)
      ∗ interp m c (tok (2 + i.val) 0) ∗ emp) ∗ owesE (F := F) c dues)
    ⊢ iprop(((interp m c (Atom.cred (2 + i.val)) ∗ emp) ∗ owesE (F := F) c dues -∗ WP c Q k)
      -∗ WP c Q (.op (.enqueueDma (kV (m2 i.val)) (toHere (oV c i)) (.dma (stS i)) (kV_words _) (oV_words c i) ⟨Or.inl rfl, trivial⟩) fun _ => k))
  iintro ⟨#HR, -, ⟨HX, ⟨%f, HF⟩, Ht, -⟩, HO⟩ Hk
  ihave #HI := (records_get m K c (2 + i.val) (by omega)) $$ HR
  icases HI with ⟨-, #Hr⟩
  ihave HX := (Entails.of_eq (kR_eq c i.val (vkC m c i.val)).symm) $$ HX
  ihave HF := (Entails.of_eq (oR_eq c c i f).symm) $$ HF
  iapply (copy_step m K c (2 + i.val) 0 (by omega) (by rw [hr]; unfold dutyOf; rw [if_neg (by omega), if_pos rfl, if_pos (by omega)]; exact Finset.mem_singleton_self _)
    (stS i) (stS_eq _) (kV (m2 i.val)) (oV c i) _ _ _ ((credit_oV c _).trans (amt_mid (by omega) (by omega)).symm) (vkC m c i.val) f ?_ (fun _ => k) Q) $$ [HX HF Ht]
  · rw [pay_st _ i.isLt]
    show _ ⊢ iprop(oR c (16384 * xc c + row0 c i.val) 512 (outC m c) ∗ (∃ f, kR c (i.val % 2) f) ∗ emp)
    rw [pointsTo_congr (st_val m c i f)]
    iintro ⟨HF, HX⟩
    ihave HX := (Entails.of_eq (kR_eq c i.val (vkC m c i.val))) $$ HX
    ihave HF := (Entails.of_eq (oR_eq c c i (outC m c))) $$ HF
    isplitl [HF]; · iexact HF
    isplitl [HX]; · iexists _; iexact HX
    iempintro
  · isplitr; · iexact HR
    isplitl [HX]; · iexact HX
    isplitl [HF]; · iexact HF
    isplitl [Ht]; · iexact Ht
    rw [hr]; iexact Hr
  iintro Hc
  iapply Hk
  isplitl [Hc]
  · isplitl [Hc]; · iexact Hc
    iempintro
  iexact HO

/-! ## Transfers -/

theorem pay_xs (i : ℕ) (h : i < 11) : Cert.Plan.pay (34 + i) 0 = [VS (i % 4)] := by
  unfold Cert.Plan.pay; rw [if_neg (by omega), if_neg (by omega), if_pos (by omega), show 34 + i - 34 = i by omega]
theorem pay_xr (i : ℕ) (h : i < 11) : Cert.Plan.pay (45 + i) 0 = [XF i] := by
  unfold Cert.Plan.pay; rw [if_neg (by omega), if_neg (by omega), if_neg (by omega), if_pos (by omega), show 45 + i - 45 = i by omega]
theorem pay_cws (k : ℕ) (h : k < 14) : Cert.Plan.pay (56 + k) 0 = [PCW k] := by
  unfold Cert.Plan.pay
  rw [if_neg (by omega), if_neg (by omega), if_neg (by omega), if_neg (by omega), if_pos (by omega), show 56 + k - 56 = k by omega]
theorem pay_cwr (k : ℕ) (h : k < 14) : Cert.Plan.pay (70 + k) 0 = [PCW (k + 2)] := by
  unfold Cert.Plan.pay
  rw [if_neg (by omega), if_neg (by omega), if_neg (by omega), if_neg (by omega), if_neg (by omega), if_pos (by omega), show 70 + k - 70 + 2 = k + 2 by omega]
theorem pay_ccws (k : ℕ) (h : k < 14) : Cert.Plan.pay (84 + k) 0 = [PCCW k] := by
  unfold Cert.Plan.pay
  rw [if_neg (by omega), if_neg (by omega), if_neg (by omega), if_neg (by omega), if_neg (by omega), if_neg (by omega), if_pos (by omega), show 84 + k - 84 = k by omega]
theorem pay_ccwr (k : ℕ) (h : k < 14) : Cert.Plan.pay (98 + k) 0 = [PCCW (k + 2)] := by
  unfold Cert.Plan.pay
  rw [if_neg (by omega), if_neg (by omega), if_neg (by omega), if_neg (by omega), if_neg (by omega), if_neg (by omega), if_neg (by omega), if_pos (by omega),
    show 98 + k - 98 + 2 = k + 2 by omega]

/-- `tdev`, range by range. -/
theorem tdev_own (c : Dev nD) (s a : ℕ) (h : s < 45 ∨ (56 ≤ s ∧ s < 70) ∨ (84 ≤ s ∧ s < 98)) : tdev c s a = c := by
  unfold tdev; split_ifs <;> first | rfl | omega
theorem tdev_par (c : Dev nD) (s a : ℕ) (h : 45 ≤ s ∧ s < 56) : tdev c s a = par c := by
  unfold tdev; rw [if_neg (by omega), if_pos (by omega)]
theorem tdev_nxt (c : Dev nD) (s a : ℕ) (h : 70 ≤ s ∧ s < 84) : tdev c s a = nxt c := by
  unfold tdev; rw [if_neg (by omega), if_neg (by omega), if_neg (by omega), if_pos (by omega)]
theorem tdev_prv (c : Dev nD) (s a : ℕ) (h : 98 ≤ s ∧ s < 112) : tdev c s a = prv c := by
  unfold tdev; rw [if_neg (by omega), if_neg (by omega), if_neg (by omega), if_neg (by omega), if_neg (by omega), if_pos (by omega)]

theorem step_xs (c : Dev nD) (i : Fin 11) : StepOK m c (.xs i) := by
  intro K dues ds k Q hp hw
  obtain rfl := popDue_some hp
  show iprop(records m K ∗ levAts L lv ∗ (sR c (i.val % 4) (vsC m c i.val) ∗ (∃ f, oR (par c) (16384 * xc c + row0 c i.val) 512 f)
      ∗ interp m c (tok (34 + i.val) 0) ∗ interp m c (tok (45 + i.val) 0) ∗ emp) ∗ owesE (F := F) c ((45 + i.val, 0) :: ds))
    ⊢ iprop(((interp m c (Atom.cred (34 + i.val)) ∗ emp) ∗ owesE (F := F) c ds -∗ WP c Q k)
      -∗ WP c Q (.op (.enqueueDma (sV (m4 i.val)) (toDev (⟨xTo c i.val, xTo_lt c i⟩ : Dev nD) (oV c (up i)) (.dma (xsS i)) rfl) (.dma (xrS i))
        (sV_words _) (oV_words c (up i)) ⟨⟨rfl, Or.inl rfl⟩, trivial⟩) fun _ => k))
  iintro ⟨#HR, -, ⟨HX, ⟨%f, HF⟩, Ht, Ht', -⟩, HO⟩ Hk
  ihave HX := (Entails.of_eq (sR_eq c i.val (vsC m c i.val)).symm) $$ HX
  ihave HF := (show oR (par c) (16384 * xc c + row0 c i.val) 512 f ⊢ _ from Entails.of_eq (oR_eq (par c) c (up i) f).symm) $$ HF
  iapply (send_step m K c (par c) (34 + i.val) (45 + i.val) ⟨by omega, by omega⟩ ⟨by omega, by omega⟩ (tdev_own c _ _ (by omega)) (tdev_par c _ _ (by omega))
    (xsS i) (xrS i) (xsS_eq i) (xrS_eq i) (⟨xTo c i.val, xTo_lt c i⟩ : Dev nD) (Fin.ext (xTo_eq c i)) (sV (m4 i.val)) (oV c (up i)) rfl _ _ _
    ((credit_oV c _).trans (amt_mid (by omega) (by omega)).symm) ((amt_mid (by omega) (by omega)).trans (amt_mid (by omega) (by omega)).symm)
    (vsC m c i.val) f ?_ ?_ ds (fun _ => k) Q) $$ [HX HF Ht Ht' HO]
  · rw [pay_xs _ i.isLt, sR_eq]
    show _ ⊢ iprop((∃ f, sR c (i.val % 4) f) ∗ emp)
    iintro HX
    isplitl [HX]; · iexists _; iexact HX
    iempintro
  · rw [pay_xr _ i.isLt, pointsTo_congr (xs_val m c i f), oR_eq]
    show _ ⊢ iprop(oR (par c) (16384 * (1 - xc (par c)) + row0 (par c) i.val) 512 (outC m (par c)) ∗ emp)
    rw [xc_par, row0_par, show 1 - (1 - xc c) = xc c by have := xc_lt c; omega]
    iintro HX
    isplitl [HX]; · iexact HX
    iempintro
  · isplitr; · iexact HR
    isplitl [HX]; · iexact HX
    isplitl [HF]; · iexact HF
    isplitl [Ht]; · iexact Ht
    isplitl [Ht']; · iexact Ht'
    iexact HO
  iintro ⟨Hc, HO⟩
  iapply Hk
  isplitl [Hc]
  · isplitl [Hc]; · iexact Hc
    iempintro
  iexact HO

theorem step_cw (c : Dev nD) (i : Fin 14) : StepOK m c (.cw i) := by
  intro K dues ds k Q hp hw
  obtain rfl := popDue_some hp
  show iprop(records m K ∗ levAts L lv ∗ (oR c (cwRow c i.val) 384 (outC m c) ∗ (∃ f, oR (nxt c) (cwRow c i.val) 384 f)
      ∗ interp m c (tok (56 + i.val) 0) ∗ interp m c (tok (70 + i.val) 0) ∗ emp) ∗ owesE (F := F) c ((70 + i.val, 0) :: ds))
    ⊢ iprop(((interp m c (Atom.cred (56 + i.val)) ∗ emp) ∗ owesE (F := F) c ds -∗ WP c Q k)
      -∗ WP c Q (.op (.enqueueDma (cwV c i) (toDev (⟨cwTo c i.val, cwTo_lt c i⟩ : Dev nD) (cwV c i) (.dma (cwsS i)) rfl) (.dma (cwrS i))
        (cwV_words c i) (cwV_words c i) ⟨⟨rfl, Or.inl rfl⟩, trivial⟩) fun _ => k))
  iintro ⟨#HR, -, ⟨HX, ⟨%f, HF⟩, Ht, Ht', -⟩, HO⟩ Hk
  ihave HX := (Entails.of_eq (cwR_eq c c i (outC m c)).symm) $$ HX
  ihave HF := (Entails.of_eq (cwR_eq (nxt c) c i f).symm) $$ HF
  iapply (send_step m K c (nxt c) (56 + i.val) (70 + i.val) ⟨by omega, by omega⟩ ⟨by omega, by omega⟩ (tdev_own c _ _ (by omega)) (tdev_nxt c _ _ (by omega))
    (cwsS i) (cwrS i) (cwsS_eq i) (cwrS_eq i) (⟨cwTo c i.val, cwTo_lt c i⟩ : Dev nD) (Fin.ext (cwTo_eq c i)) (cwV c i) (cwV c i) rfl _ _ _
    ((credit_cwV c _).trans (amt_hi (by omega) (by omega)).symm) ((amt_hi (by omega) (by omega)).trans (amt_hi (by omega) (by omega)).symm)
    (outC m c) f ?_ ?_ ds (fun _ => k) Q) $$ [HX HF Ht Ht' HO]
  · rw [pay_cws _ i.isLt, cwR_eq]
    show _ ⊢ iprop(oR c (cwRow c i.val) 384 (outC m c) ∗ emp)
    iintro HX
    isplitl [HX]; · iexact HX
    iempintro
  · rw [pay_cwr _ i.isLt, pointsTo_congr (cw_val m c i f), cwR_eq]
    show _ ⊢ iprop(oR (nxt c) (cwRow (nxt c) (i.val + 2)) 384 (outC m (nxt c)) ∗ emp)
    rw [cwRow_nxt c i.val i.isLt]
    iintro HX
    isplitl [HX]; · iexact HX
    iempintro
  · isplitr; · iexact HR
    isplitl [HX]; · iexact HX
    isplitl [HF]; · iexact HF
    isplitl [Ht]; · iexact Ht
    isplitl [Ht']; · iexact Ht'
    iexact HO
  iintro ⟨Hc, HO⟩
  iapply Hk
  isplitl [Hc]
  · isplitl [Hc]; · iexact Hc
    iempintro
  iexact HO

theorem step_ccw (c : Dev nD) (i : Fin 14) : StepOK m c (.ccw i) := by
  intro K dues ds k Q hp hw
  obtain rfl := popDue_some hp
  show iprop(records m K ∗ levAts L lv ∗ (oR c (ccwRow c i.val) 384 (outC m c) ∗ (∃ f, oR (prv c) (ccwRow c i.val) 384 f)
      ∗ interp m c (tok (84 + i.val) 0) ∗ interp m c (tok (98 + i.val) 0) ∗ emp) ∗ owesE (F := F) c ((98 + i.val, 0) :: ds))
    ⊢ iprop(((interp m c (Atom.cred (84 + i.val)) ∗ emp) ∗ owesE (F := F) c ds -∗ WP c Q k)
      -∗ WP c Q (.op (.enqueueDma (ccwV c i) (toDev (⟨ccwTo c i.val, ccwTo_lt c i⟩ : Dev nD) (ccwV c i) (.dma (ccwsS i)) rfl) (.dma (ccwrS i))
        (ccwV_words c i) (ccwV_words c i) ⟨⟨rfl, Or.inl rfl⟩, trivial⟩) fun _ => k))
  iintro ⟨#HR, -, ⟨HX, ⟨%f, HF⟩, Ht, Ht', -⟩, HO⟩ Hk
  ihave HX := (Entails.of_eq (ccwR_eq c c i (outC m c)).symm) $$ HX
  ihave HF := (Entails.of_eq (ccwR_eq (prv c) c i f).symm) $$ HF
  iapply (send_step m K c (prv c) (84 + i.val) (98 + i.val) ⟨by omega, by omega⟩ ⟨by omega, by omega⟩ (tdev_own c _ _ (by omega)) (tdev_prv c _ _ (by omega))
    (ccwsS i) (ccwrS i) (ccwsS_eq i) (ccwrS_eq i) (⟨ccwTo c i.val, ccwTo_lt c i⟩ : Dev nD) (Fin.ext (ccwTo_eq c i)) (ccwV c i) (ccwV c i) rfl _ _ _
    ((credit_ccwV c _).trans (amt_hi (by omega) (by omega)).symm) ((amt_hi (by omega) (by omega)).trans (amt_hi (by omega) (by omega)).symm)
    (outC m c) f ?_ ?_ ds (fun _ => k) Q) $$ [HX HF Ht Ht' HO]
  · rw [pay_ccws _ i.isLt, ccwR_eq]
    show _ ⊢ iprop(oR c (ccwRow c i.val) 384 (outC m c) ∗ emp)
    iintro HX
    isplitl [HX]; · iexact HX
    iempintro
  · rw [pay_ccwr _ i.isLt, pointsTo_congr (ccw_val m c i f), ccwR_eq]
    show _ ⊢ iprop(oR (prv c) (ccwRow (prv c) (i.val + 2)) 384 (outC m (prv c)) ∗ emp)
    rw [ccwRow_prv c i.val i.isLt]
    iintro HX
    isplitl [HX]; · iexact HX
    iempintro
  · isplitr; · iexact HR
    isplitl [HX]; · iexact HX
    isplitl [HF]; · iexact HF
    isplitl [Ht]; · iexact Ht
    isplitl [Ht']; · iexact Ht'
    iexact HO
  iintro ⟨Hc, HO⟩
  iapply Hk
  isplitl [Hc]
  · isplitl [Hc]; · iexact Hc
    iempintro
  iexact HO

/-! ## The barrier's signals -/

theorem step_sig (c : Dev nD) (d : Fin 3) : StepOK m c (.sig d) := by
  intro K dues ds k Q hp hw
  obtain rfl := popDue_some hp
  have ht : ∀ e : Dev nD, e = sigDev c d.val → ∀ (Q' : PUnit → sProp 𝕄),
      iprop(records m K ∗ levAts L lv ∗ (dutyTok ER (cellAt (sigDev c d.val) 112) 0 d.val ∗ sepL (mem m (sigDev c d.val)) (Cert.Plan.pay 112 d.val) ∗ emp)
        ∗ (∃ W, owes (c : Thread nD τ) (dueO c ds + tallyAt (cellAt (sigDev c d.val) 112) () 1) W))
      ⊢ iprop((emp ∗ owesE (F := F) c ds -∗ WP c Q' k) -∗ WP c Q' (.op (.semSignal (Dev.tc e : Thread nD τ) barS 1) fun _ => k)) := by
    intro e he Q'
    subst he
    iintro ⟨#HR, -, ⟨Ht, Hp, -⟩, ⟨%W, HO⟩⟩ Hk
    ihave #HI := (records_get m K (sigDev c d.val) 112 (by omega)) $$ HR
    icases HI with ⟨#HI, #Hr⟩
    iapply (Rounds.wp_signal 𝒱₀ ER (Rd m) (c : Thread nD τ) none (dst := (sigDev c d.val : Thread nD τ)) (κ := K (sigDev c d.val, ⟨112, by omega⟩))
      (r := 0) (d := d.val) (by
        rw [show (((sigDev c d.val : Dev nD) : Thread nD τ), SemLoc.reg barS) = cellAt (sigDev c d.val) 112 from rfl, Rd_duties m _ 112 0 (by omega)]
        show d.val ∈ ({0, 1, 2} : Finset ℕ)
        fin_cases d <;> decide) (Rd_amount m _ 112 0 d.val (by omega)) () (dueO c ds) rfl (W := W)) $$ [HO Ht Hp]
    · isplitr; · iexact HI
      isplitl [HO]; · iexact HO
      isplitl [Ht]; · iexact Ht
      isplitl [Hp]; · rw [show (((sigDev c d.val : Dev nD) : Thread nD τ), SemLoc.reg barS) = cellAt (sigDev c d.val) 112 from rfl, Rd_payload m _ 112 0 _ (by omega)]; iexact Hp
      iexact Hr
    iintro HO
    iapply Hk
    isplitr; · iempintro
    unfold owesE
    iexists _; iexact HO
  exact ht (⟨sigTo c d.val, sigTo_lt c d⟩ : Dev nD) (Fin.ext (sigTo_eq c d)) Q

/-! ## Converting a half -/

theorem halfS_sub (c : Dev nD) (i : Fin 11) :
    fM.view.setOn (Rect.unit (s := S2x512x2048) (halfS c i.val) S1x512x1024.size (halfS_inb c i.val)).toLoadRect.set ⊆ band S2x512x2048 0 (i.val % 2) 1 := by
  intro a ha
  obtain ⟨x, hx, rfl⟩ := Finset.mem_map.1 ha
  have h := Rect.mem_set_unit.1 hx 0
  rw [show halfS c i.val 0 = i.val % 2 from congrFun (halfS_eq c (up i)) 0] at h
  exact mem_band.2 h
theorem halfK_sub (c : Dev nD) (i : Fin 32) :
    fM.view.setOn (Rect.unit (s := S2x512x2048) (halfK c i.val) S1x512x1024.size (halfK_inb c i.val)).toLoadRect.set ⊆ band S2x512x2048 0 (i.val % 2) 1 := by
  intro a ha
  obtain ⟨x, hx, rfl⟩ := Finset.mem_map.1 ha
  have h := Rect.mem_set_unit.1 hx 0
  rw [show halfK c i.val 0 = i.val % 2 from congrFun (halfK_eq c i) 0] at h
  exact mem_band.2 h
theorem rS_access (i : ℕ) : (sM.access (rS (m4 i))).set = band S4x512x1024 0 (i % 4) 1 := (View.set_slice_whole cc0_scratch1 _).trans (rS_set (m4 i))
theorem rK_access (i : ℕ) : (kM.access (rK (m2 i))).set = band S2x512x1024 0 (i % 2) 1 := (View.set_slice_whole cc0_scratch2 _).trans (rK_set (m2 i))
theorem rS_load (i : ℕ) : sM.view.setOn (rS (m4 i)).toLoadRect.set ⊆ band S4x512x1024 0 (i % 4) 1 := by
  intro a ha
  obtain ⟨x, hx, rfl⟩ := Finset.mem_map.1 ha
  exact mem_band.2 (Rect.mem_set_unit.1 hx 0)
theorem rK_load (i : ℕ) : kM.view.setOn (rK (m2 i)).toLoadRect.set ⊆ band S2x512x1024 0 (i % 2) 1 := by
  intro a ha
  obtain ⟨x, hx, rfl⟩ := Finset.mem_map.1 ha
  exact mem_band.2 (Rect.mem_set_unit.1 hx 0)

theorem step_castS (c : Dev nD) (i : Fin 11) : StepOK m c (.castS i) := by
  intro K dues ds k Q hp hw
  obtain rfl : dues = ds := Option.some.inj hp
  show iprop(records m K ∗ levAts L lv ∗ ((fL c ↦[band S2x512x2048 0 (i.val % 2) 1]{fullShare} vfC m c i.val) ∗ (∃ f, sL c ↦[band S4x512x1024 0 (i.val % 4) 1]{fullShare} f) ∗ emp) ∗ owesE (F := F) c dues)
    ⊢ iprop((((fL c ↦[band S2x512x2048 0 (i.val % 2) 1]{fullShare} vfC m c i.val) ∗ (sL c ↦[band S4x512x1024 0 (i.val % 4) 1]{fullShare} vsC m c i.val) ∗ emp) ∗ owesE (F := F) c dues -∗ WP c Q k)
      -∗ WP c Q ((castS c i).bind fun _ => k))
  unfold castS
  simp only [Prog.bind_op, Prog.bind_ret]
  iintro ⟨-, -, ⟨HF, ⟨%f, HS⟩, -⟩, HO⟩ Hk
  iapply (wp_load 𝒱₀ (c : Thread nD τ) none Set.univ (m := fM) (halfS_sub c i)) $$ HF; iintro HF
  iapply (wp_load 𝒱₀ (c : Thread nD τ) none Set.univ (m := sM) (rS_load i.val)) $$ HS; iintro HS
  iapply (wp_store 𝒱₀ (c : Thread nD τ) none Set.univ (m := sM) (r := rS (m4 i.val)) (Mk := Finset.univ) (rS_access i.val).subset) $$ HS; iintro HS
  ihave HS := (Entails.of_eq (pointsTo_congr (ℓ := sL c) (I := band S4x512x1024 0 (i.val % 4) 1) (fun a ha => castS_val m c i f a ((rS_access i.val).symm ▸ ha)))) $$ HS
  iapply Hk
  isplitl [HF HS]
  · isplitl [HF]; · iexact HF
    isplitl [HS]; · iexact HS
    iempintro
  iexact HO

theorem step_castK (c : Dev nD) (i : Fin 32) : StepOK m c (.castK i) := by
  intro K dues ds k Q hp hw
  obtain rfl : dues = ds := Option.some.inj hp
  show iprop(records m K ∗ levAts L lv ∗ ((fL c ↦[band S2x512x2048 0 (i.val % 2) 1]{fullShare} vfC m c i.val) ∗ (∃ f, kL c ↦[band S2x512x1024 0 (i.val % 2) 1]{fullShare} f) ∗ emp) ∗ owesE (F := F) c dues)
    ⊢ iprop((((∃ f, fL c ↦[band S2x512x2048 0 (i.val % 2) 1]{fullShare} f) ∗ (kL c ↦[band S2x512x1024 0 (i.val % 2) 1]{fullShare} vkC m c i.val) ∗ emp) ∗ owesE (F := F) c dues -∗ WP c Q k)
      -∗ WP c Q ((castK c i).bind fun _ => k))
  unfold castK
  simp only [Prog.bind_op, Prog.bind_ret]
  iintro ⟨-, -, ⟨HF, ⟨%f, HS⟩, -⟩, HO⟩ Hk
  iapply (wp_load 𝒱₀ (c : Thread nD τ) none Set.univ (m := fM) (halfK_sub c i)) $$ HF; iintro HF
  iapply (wp_load 𝒱₀ (c : Thread nD τ) none Set.univ (m := kM) (rK_load i.val)) $$ HS; iintro HS
  iapply (wp_store 𝒱₀ (c : Thread nD τ) none Set.univ (m := kM) (r := rK (m2 i.val)) (Mk := Finset.univ) (rK_access i.val).subset) $$ HS; iintro HS
  ihave HS := (Entails.of_eq (pointsTo_congr (ℓ := kL c) (I := band S2x512x1024 0 (i.val % 2) 1) (fun a ha => castK_val m c i f a ((rK_access i.val).symm ▸ ha)))) $$ HS
  iapply Hk
  isplitl [HF HS]
  · isplitl [HF]; · iexists _; iexact HF
    isplitl [HS]; · iexact HS
    iempintro
  iexact HO

/-! ## Regrouping rows -/

/-- A band cut in two. -/
theorem oR_cut (c : Dev nD) (lo n₁ n₂ : ℕ) (f : Buf (Elt F) (oL c)) : oR c lo (n₁ + n₂) f ⊣⊢ iprop(oR c lo n₁ f ∗ oR c (lo + n₁) n₂ f) := by
  have h : band S32768x1024 0 lo (n₁ + n₂) = band S32768x1024 0 lo n₁ ∪ band S32768x1024 0 (lo + n₁) n₂ := by
    ext a; rw [Finset.mem_union, mem_band, mem_band, mem_band]; omega
  have hd : Disjoint (band S32768x1024 0 lo n₁) (band S32768x1024 0 (lo + n₁) n₂) := by
    rw [Finset.disjoint_left]; intro a h1 h2; rw [mem_band] at h1 h2; omega
  unfold oR
  rw [h]
  exact pointsTo_union hd

theorem oR_of (c : Dev nD) {lo lo' n n' : ℕ} (f : Buf (Elt F) (oL c)) (h : lo = lo') (h' : n = n') : oR c lo n f ⊢ oR c lo' n' f := by
  subst h; subst h'; exact BI.Entails.refl _

theorem step_cut (c : Dev nD) (j : Fin 3) : StepOK m c (.cut j) := by
  intro K dues ds k Q hp hw
  obtain rfl : dues = ds := Option.some.inj hp
  have hrp := rp_lt c
  have e0 : cwRow c 0 = 16384 * (1 - xc c) + 1536 * rp c := by unfold cwRow; omega
  have e1 : cwRow c 1 = 16384 * (1 - xc c) + 1536 * rp c + 384 := by unfold cwRow; omega
  have e2 : ccwRow c 0 = 16384 * (1 - xc c) + 1536 * rp c + 768 := by unfold ccwRow; omega
  have e3 : ccwRow c 1 = 16384 * (1 - xc c) + 1536 * rp c + 1152 := by unfold ccwRow; omega
  have f0 : row0 c 0 = 1536 * rp c := by unfold row0; rw [if_pos (by omega)]; omega
  have f1 : row0 c 1 = 1536 * rp c + 512 := by unfold row0; rw [if_pos (by omega)]
  have f2 : row0 c 2 = 1536 * rp c + 1024 := by unfold row0; rw [if_pos (by omega)]
  match j with
  | ⟨0, _⟩ =>
    show iprop(records m K ∗ levAts L lv ∗ (oR c (16384 * (1 - xc c) + row0 c 0) 512 (outC m c) ∗ emp) ∗ owesE (F := F) c dues)
      ⊢ iprop(((oR c (cwRow c 0) 384 (outC m c) ∗ oR c (16384 * (1 - xc c) + 1536 * rp c + 384) 128 (outC m c) ∗ emp) ∗ owesE (F := F) c dues -∗ WP c Q k) -∗ WP c Q k)
    rw [e0, f0]
    iintro ⟨-, -, ⟨HX, -⟩, HO⟩ Hk
    ihave HX := (oR_cut c _ 384 128 (outC m c)).1 $$ HX
    icases HX with ⟨H1, H2⟩
    iapply Hk
    isplitl [H1 H2]
    · isplitl [H1]; · iexact H1
      isplitl [H2]; · iexact H2
      iempintro
    iexact HO
  | ⟨1, _⟩ =>
    show iprop(records m K ∗ levAts L lv ∗ (oR c (16384 * (1 - xc c) + row0 c 1) 512 (outC m c) ∗ oR c (16384 * (1 - xc c) + 1536 * rp c + 384) 128 (outC m c) ∗ emp) ∗ owesE (F := F) c dues)
      ⊢ iprop(((oR c (cwRow c 1) 384 (outC m c) ∗ oR c (16384 * (1 - xc c) + 1536 * rp c + 768) 256 (outC m c) ∗ emp) ∗ owesE (F := F) c dues -∗ WP c Q k) -∗ WP c Q k)
    rw [e1, f1]
    have hg : 16384 * (1 - xc c) + 1536 * rp c + 384 + 384 = 16384 * (1 - xc c) + 1536 * rp c + 768 := by omega
    iintro ⟨-, -, ⟨HX, HW, -⟩, HO⟩ Hk
    ihave HX := (oR_of c (outC m c) (show 16384 * (1 - xc c) + (1536 * rp c + 512) = 16384 * (1 - xc c) + 1536 * rp c + 384 + 128 by omega) rfl) $$ HX
    ihave HX := (oR_cut c _ 128 512 (outC m c)).2 $$ [HX HW]
    · isplitl [HW] <;> iassumption
    ihave HX := (oR_of c (outC m c) rfl (show 128 + 512 = 384 + 256 by rfl)) $$ HX
    ihave HX := (oR_cut c _ 384 256 (outC m c)).1 $$ HX
    icases HX with ⟨H1, H2⟩
    iapply Hk
    isplitl [H1 H2]
    · isplitl [H1]; · iexact H1
      isplitl [H2]; · iapply (oR_of c (outC m c) hg rfl); iexact H2
      iempintro
    iexact HO
  | ⟨2, _⟩ =>
    show iprop(records m K ∗ levAts L lv ∗ (oR c (16384 * (1 - xc c) + row0 c 2) 512 (outC m c) ∗ oR c (16384 * (1 - xc c) + 1536 * rp c + 768) 256 (outC m c) ∗ emp) ∗ owesE (F := F) c dues)
      ⊢ iprop(((oR c (ccwRow c 0) 384 (outC m c) ∗ oR c (ccwRow c 1) 384 (outC m c) ∗ emp) ∗ owesE (F := F) c dues -∗ WP c Q k) -∗ WP c Q k)
    rw [e2, e3, f2]
    have hg : 16384 * (1 - xc c) + 1536 * rp c + 768 + 384 = 16384 * (1 - xc c) + 1536 * rp c + 1152 := by omega
    iintro ⟨-, -, ⟨HX, HW, -⟩, HO⟩ Hk
    ihave HX := (oR_of c (outC m c) (show 16384 * (1 - xc c) + (1536 * rp c + 1024) = 16384 * (1 - xc c) + 1536 * rp c + 768 + 256 by omega) rfl) $$ HX
    ihave HX := (oR_cut c _ 256 512 (outC m c)).2 $$ [HX HW]
    · isplitl [HW] <;> iassumption
    ihave HX := (oR_of c (outC m c) rfl (show 256 + 512 = 384 + 384 by rfl)) $$ HX
    ihave HX := (oR_cut c _ 384 384 (outC m c)).1 $$ HX
    icases HX with ⟨H1, H2⟩
    iapply Hk
    isplitl [H1 H2]
    · isplitl [H1]; · iexact H1
      isplitl [H2]; · iapply (oR_of c (outC m c) hg rfl); iexact H2
      iempintro
    iexact HO

/-! ## All -/

theorem step_all (c : Dev nD) (o : Op) : StepOK m c o := by
  cases o with
  | sig d => exact step_sig m c d
  | barw => exact step_barw m c
  | ld i => exact step_ld m c i
  | ldw i => exact step_ldw m c i
  | castS i => exact step_castS m c i
  | xs i => exact step_xs m c i
  | xsw i => exact step_xsw m c i
  | xrw i => exact step_xrw m c i
  | castK i => exact step_castK m c i
  | st i => exact step_st m c i
  | stw i => exact step_stw m c i
  | cw k => exact step_cw m c k
  | cwsw k => exact step_cwsw m c k
  | cwrw k => exact step_cwrw m c k
  | ccw k => exact step_ccw m c k
  | ccwsw k => exact step_ccwsw m c k
  | ccwrw k => exact step_ccwrw m c k
  | cut j => exact step_cut m c j

/-- A list of operations, run from a state that the plan runs to another. -/
theorem run_ops (K : Key → ℕ) (c : Dev nD) (Q : PUnit → sProp 𝕄) : ∀ (ops : List Op) (st st' : St), exec ops st = some st' →
    iprop(records m K ∗ levAts L lv ∗ sepL (interp m c) st.1 ∗ owesE (F := F) c st.2)
      ⊢ iprop((sepL (interp m c) st'.1 ∗ owesE (F := F) c st'.2 -∗ Q ⟨⟩) -∗ WP c Q (seqAll (ops.map (instr c))))
  | [], st, st', h => by
    obtain rfl : st = st' := Option.some.inj h
    show _ ⊢ iprop(_ -∗ WP c Q (.ret ⟨⟩))
    unfold WP
    rw [wp_ret]
    iintro ⟨-, -, HA, HO⟩ Hk
    imodintro
    iapply Hk
    isplitl [HA] <;> iassumption
  | o :: ops, st, st', h => by
    obtain ⟨st₁, h₁, h₂⟩ := Option.bind_eq_some_iff.1 h
    obtain ⟨al, ds, hal, hds, hw, rfl⟩ := step_eq h₁
    show _ ⊢ iprop(_ -∗ WP c Q ((instr c o).bind fun _ => seqAll (ops.map (instr c))))
    iintro ⟨#HR, #HL, HA, HO⟩ Hk
    ihave HA := (sepL_takeAll (interp m c) o.pre st.1 al hal) $$ HA
    icases HA with ⟨HP, HA⟩
    iapply (step_all m c o K st.2 ds _ Q hds hw) $$ [HP HO]
    · isplitr; · iexact HR
      isplitr; · iexact HL
      isplitl [HP] <;> iassumption
    iintro ⟨HP, HO⟩
    iapply (run_ops K c Q ops (o.post ++ al, ds) st' h₂) $$ [HP HA HO]
    · isplitr; · iexact HR
      isplitr; · iexact HL
      isplitl [HP HA]
      · iapply (sepL_append (interp m c) o.post al).2
        isplitl [HP] <;> iassumption
      iexact HO
    iexact Hk

end Cert.KernelIdeal.Ring

end
-- ==== Proof.KernelIdeal.Parts.lean ====
/-
Buffers cut into parts and put together again: what a device starts with and what it ends with, in the plan's names.
-/
module

public import proofs.«01_k».proof.Proof.KernelIdeal.Ops

@[expose] public section

set_option backward.proofsInPublic true

noncomputable section

namespace Cert.KernelIdeal.Ring

open Cert.KernelIdeal Cert.KernelIdeal.Gen Cert.Geo Cert.Plan Cert.Plan.Atom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists of parts -/

/-- What all entries of a list stand for, separately. -/
def sepB {α : Type} (P : α → sProp 𝕄) : List α → sProp 𝕄
  | [] => iprop(emp)
  | a :: l => iprop(P a ∗ sepB P l)

omit [FloatOps F] in
theorem sepB_append {α : Type} (P : α → sProp 𝕄) (l l' : List α) : sepB P (l ++ l') ⊣⊢ iprop(sepB P l ∗ sepB P l') := by
  induction l with
  | nil =>
    constructor
    · iintro H; isplitr; · exact Entails.refl _
      iexact H
    · iintro ⟨-, H⟩; iexact H
  | cons a l ih =>
    constructor
    · show iprop(P a ∗ sepB P (l ++ l')) ⊢ iprop((P a ∗ sepB P l) ∗ sepB P l')
      iintro ⟨Ha, H⟩
      ihave H' := ih.1 $$ H
      icases H' with ⟨H1, H2⟩
      isplitl [Ha H1]; · isplitl [Ha] <;> iassumption
      iexact H2
    · show iprop((P a ∗ sepB P l) ∗ sepB P l') ⊢ iprop(P a ∗ sepB P (l ++ l'))
      iintro ⟨⟨Ha, H1⟩, H2⟩
      isplitl [Ha]; · iexact Ha
      iapply ih.2; isplitl [H1] <;> iassumption

omit [FloatOps F] in
/-- Names to entries, one by one, -/
theorem sepL_sepB {ι α : Type} (P : Atom → sProp 𝕄) (Q : α → sProp 𝕄) (A : ι → Atom) (B : ι → α) (h : ∀ i, P (A i) ⊢ Q (B i)) :
    ∀ l : List ι, sepL P (l.map A) ⊢ sepB Q (l.map B)
  | [] => Entails.refl _
  | i :: l => BIClass.sep_mono (h i) (sepL_sepB P Q A B h l)
omit [FloatOps F] in
/-- and back, -/
theorem sepB_sepL {ι α : Type} (P : Atom → sProp 𝕄) (Q : α → sProp 𝕄) (A : ι → Atom) (B : ι → α) (h : ∀ i, Q (B i) ⊢ P (A i)) :
    ∀ l : List ι, sepB Q (l.map B) ⊢ sepL P (l.map A)
  | [] => Entails.refl _
  | i :: l => BIClass.sep_mono (h i) (sepB_sepL P Q A B h l)
omit [FloatOps F] in
/-- or from one reading of the names to another. -/
theorem sepL_sepL {ι : Type} (P Q : Atom → sProp 𝕄) (A B : ι → Atom) (h : ∀ i, P (A i) ⊢ Q (B i)) :
    ∀ l : List ι, sepL P (l.map A) ⊢ sepL Q (l.map B)
  | [] => Entails.refl _
  | i :: l => BIClass.sep_mono (h i) (sepL_sepL P Q A B h l)
omit [FloatOps F] in
theorem sepL_mono (P Q : Atom → sProp 𝕄) (h : ∀ a, P a ⊢ Q a) : ∀ l : List Atom, sepL P l ⊢ sepL Q l
  | [] => Entails.refl _
  | i :: l => BIClass.sep_mono (h i) (sepL_mono P Q h l)
omit [FloatOps F] in
/-- The chain of the library over a list, as names. -/
theorem bigSepL_sepL {ι : Type} (P : Atom → sProp 𝕄) (Q : ι → sProp 𝕄) (A : ι → Atom) (h : ∀ i, Q i ⊢ P (A i)) :
    ∀ l : List ι, bigSepL l Q ⊢ sepL P (l.map A)
  | [] => Entails.refl _
  | i :: l => by rw [bigSepL_cons]; exact BIClass.sep_mono (h i) (bigSepL_sepL P Q A h l)
omit [FloatOps F] in
theorem sepL_bigSepL {ι : Type} (P : Atom → sProp 𝕄) (Q : ι → sProp 𝕄) (A : ι → Atom) (h : ∀ i, P (A i) ⊢ Q i) :
    ∀ l : List ι, sepL P (l.map A) ⊢ bigSepL l Q
  | [] => Entails.refl _
  | i :: l => by rw [bigSepL_cons]; exact BIClass.sep_mono (h i) (sepL_bigSepL P Q A h l)

/-! ## Cuts -/

section Cut

variable {ℓ : Loc nD τ sig} (r : Idx ℓ → ℕ) (B : ℕ → ℕ → Finset (Idx ℓ)) (hB : ∀ lo n i, i ∈ B lo n ↔ lo ≤ r i ∧ r i < lo + n)
include hB

omit [FloatOps F] in
theorem cut_disjoint (p : ℕ × ℕ) (l : List (ℕ × ℕ)) (h : ∀ q ∈ l, p.1 + p.2 ≤ q.1 ∨ q.1 + q.2 ≤ p.1) (I : Finset (Idx ℓ))
    (hI : ∀ i, i ∈ I ↔ ∃ q ∈ l, q.1 ≤ r i ∧ r i < q.1 + q.2) : Disjoint (B p.1 p.2) I := by
  rw [Finset.disjoint_left]
  intro i h1 h2
  rw [hB] at h1
  obtain ⟨q, hq, h3, h4⟩ := (hI i).1 h2
  rcases h q hq with h | h <;> omega

omit [FloatOps F] in
/-- Parts that do not meet are their union. -/
theorem cut_parts (f : Buf (Elt F) ℓ) : ∀ l : List (ℕ × ℕ), Apart l → ∃ I : Finset (Idx ℓ), (∀ i, i ∈ I ↔ ∃ q ∈ l, q.1 ≤ r i ∧ r i < q.1 + q.2) ∧
    ((ℓ ↦[I]{fullShare} f : sProp 𝕄) ⊣⊢ sepB (fun p : ℕ × ℕ => ℓ ↦[B p.1 p.2]{fullShare} f) l)
  | [], _ => ⟨∅, by simp, by rw [pointsTo_empty]; exact ⟨Entails.refl _, Entails.refl _⟩⟩
  | p :: l, h => by
    obtain ⟨hp, hl⟩ := List.pairwise_cons.1 h
    obtain ⟨I, hI, e⟩ := cut_parts f l hl
    refine ⟨B p.1 p.2 ∪ I, fun i => ?_, ?_⟩
    · rw [Finset.mem_union, hB, hI]; simp
    · have u := pointsTo_union (Ix := Unit) (Name := ℕ) (U := UU) (Lvl := ℕ) (q := fullShare) (f := f) (cut_disjoint r B hB p l hp I hI)
      exact ⟨u.1.trans (BIClass.sep_mono (Entails.refl _) e.1), (BIClass.sep_mono (Entails.refl _) e.2).trans u.2⟩

omit [FloatOps F] in
/-- Parts that do not meet and reach everything are the whole buffer. -/
theorem cut_whole (N : ℕ) (hr : ∀ i, r i < N) (f : Buf (Elt F) ℓ) (l : List (ℕ × ℕ)) (ha : Apart l) (hf : Fills N l) :
    (ℓ ↦{fullShare} f : sProp 𝕄) ⊣⊢ sepB (fun p : ℕ × ℕ => ℓ ↦[B p.1 p.2]{fullShare} f) l := by
  obtain ⟨I, hI, e⟩ := cut_parts r B hB f l ha
  have : I = Finset.univ := Finset.eq_univ_iff_forall.2 fun i => (hI i).2 (hf _ (hr i))
  rw [this] at e; exact e

omit [FloatOps F] in
/-- The same, of parts whose contents are not known. -/
theorem cut_some : ∀ l : List (ℕ × ℕ), Apart l → ∃ I : Finset (Idx ℓ), (∀ i, i ∈ I ↔ ∃ q ∈ l, q.1 ≤ r i ∧ r i < q.1 + q.2) ∧
    (sepB (fun p : ℕ × ℕ => iprop(∃ f : Buf (Elt F) ℓ, ℓ ↦[B p.1 p.2]{fullShare} f)) l ⊢ (iprop(∃ f : Buf (Elt F) ℓ, ℓ ↦[I]{fullShare} f) : sProp 𝕄))
      ∨ l = []
  | [], _ => ⟨∅, Or.inr rfl⟩
  | [p], h => by
    refine ⟨B p.1 p.2, Or.inl ⟨fun i => by rw [hB]; simp, ?_⟩⟩
    show iprop((∃ f : Buf (Elt F) ℓ, ℓ ↦[B p.1 p.2]{fullShare} f) ∗ emp) ⊢ _
    iintro ⟨H, -⟩; iexact H
  | p :: q :: l, h => by
    obtain ⟨hp, hl⟩ := List.pairwise_cons.1 h
    obtain ⟨I, ⟨hI, e⟩ | hn⟩ := cut_some (q :: l) hl
    · refine ⟨B p.1 p.2 ∪ I, Or.inl ⟨fun i => by rw [Finset.mem_union, hB, hI]; simp, ?_⟩⟩
      show iprop((∃ f : Buf (Elt F) ℓ, ℓ ↦[B p.1 p.2]{fullShare} f) ∗ _) ⊢ _
      iintro ⟨⟨%f, H1⟩, H2⟩
      ihave H2 := e $$ H2
      icases H2 with ⟨%g, H2⟩
      iexists _
      iapply (pointsTo_join (cut_disjoint r B hB p (q :: l) hp I hI))
      isplitl [H1] <;> iassumption
    · exact absurd hn (by simp)

omit [FloatOps F] in
theorem cut_some_whole (N : ℕ) (hr : ∀ i, r i < N) (p : ℕ × ℕ) (l : List (ℕ × ℕ)) (ha : Apart (p :: l)) (hf : Fills N (p :: l)) :
    sepB (fun p : ℕ × ℕ => iprop(∃ f : Buf (Elt F) ℓ, ℓ ↦[B p.1 p.2]{fullShare} f)) (p :: l) ⊢ (iprop(∃ f : Buf (Elt F) ℓ, ℓ ↦{fullShare} f) : sProp 𝕄) := by
  obtain ⟨I, ⟨hI, e⟩ | hn⟩ := cut_some (F := F) r B hB (p :: l) ha
  · have : I = Finset.univ := Finset.eq_univ_iff_forall.2 fun i => (hI i).2 (hf _ (hr i))
    rw [this] at e; exact e
  · exact absurd hn (by simp)

end Cut

/-! ## The five buffers -/

omit [FloatOps F] in
theorem xL_cut (c : Dev nD) (f : Buf (Elt F) (xL c)) (l : List (ℕ × ℕ)) (ha : Apart l) (hf : Fills 16384 l) :
    (xL c ↦{fullShare} f : sProp 𝕄) ⊣⊢ sepB (fun p : ℕ × ℕ => xR c p.1 p.2 f) l :=
  cut_whole (ℓ := xL c) (fun i : S16384x2048.Idx => (i 0).val) (band S16384x2048 0) (fun _ _ _ => mem_band) 16384 (fun i : S16384x2048.Idx => (i 0).isLt) f l ha hf
omit [FloatOps F] in
theorem oL_cut (c : Dev nD) (f : Buf (Elt F) (oL c)) (l : List (ℕ × ℕ)) (ha : Apart l) (hf : Fills 32768 l) :
    (oL c ↦{fullShare} f : sProp 𝕄) ⊣⊢ sepB (fun p : ℕ × ℕ => oR c p.1 p.2 f) l :=
  cut_whole (ℓ := oL c) (fun i : S32768x1024.Idx => (i 0).val) (band S32768x1024 0) (fun _ _ _ => mem_band) 32768 (fun i : S32768x1024.Idx => (i 0).isLt) f l ha hf

/-- Slots, one row each. -/
def slots (n : ℕ) : List (ℕ × ℕ) := (List.range n).map fun j => (j, 1)
theorem slots_apart (n : ℕ) : Apart (slots n) := by
  unfold Apart slots
  rw [List.pairwise_map]
  exact List.pairwise_lt_range.imp fun h => Or.inl h
theorem slots_fills (n : ℕ) : Fills n (slots n) := fun r hr => ⟨(r, 1), List.mem_map.2 ⟨r, List.mem_range.2 hr, rfl⟩, Nat.le_refl _, Nat.lt_succ_self _⟩

omit [FloatOps F] in
theorem fL_cut (c : Dev nD) (f : Buf (Elt F) (fL c)) : (fL c ↦{fullShare} f : sProp 𝕄) ⊢ iprop(fR c 0 f ∗ fR c 1 f ∗ emp) :=
  (cut_whole (ℓ := fL c) (fun i : S2x512x2048.Idx => (i 0).val) (band S2x512x2048 0) (fun _ _ _ => mem_band) 2 (fun i : S2x512x2048.Idx => (i 0).isLt) f _ (slots_apart 2) (slots_fills 2)).1
omit [FloatOps F] in
theorem sL_cut (c : Dev nD) (f : Buf (Elt F) (sL c)) : (sL c ↦{fullShare} f : sProp 𝕄) ⊢ iprop(sR c 0 f ∗ sR c 1 f ∗ sR c 2 f ∗ sR c 3 f ∗ emp) :=
  (cut_whole (ℓ := sL c) (fun i : S4x512x1024.Idx => (i 0).val) (band S4x512x1024 0) (fun _ _ _ => mem_band) 4 (fun i : S4x512x1024.Idx => (i 0).isLt) f _ (slots_apart 4) (slots_fills 4)).1
omit [FloatOps F] in
theorem kL_cut (c : Dev nD) (f : Buf (Elt F) (kL c)) : (kL c ↦{fullShare} f : sProp 𝕄) ⊢ iprop(kR c 0 f ∗ kR c 1 f ∗ emp) :=
  (cut_whole (ℓ := kL c) (fun i : S2x512x1024.Idx => (i 0).val) (band S2x512x1024 0) (fun _ _ _ => mem_band) 2 (fun i : S2x512x1024.Idx => (i 0).isLt) f _ (slots_apart 2) (slots_fills 2)).1
omit [FloatOps F] in
theorem fL_join (c : Dev nD) : iprop((∃ f, fR c 0 f) ∗ (∃ f, fR c 1 f) ∗ emp) ⊢ (iprop(∃ f : Buf (Elt F) (fL c), fL c ↦{fullShare} f) : sProp 𝕄) :=
  cut_some_whole (ℓ := fL c) (fun i : S2x512x2048.Idx => (i 0).val) (band S2x512x2048 0) (fun _ _ _ => mem_band) 2 (fun i : S2x512x2048.Idx => (i 0).isLt) (0, 1) [(1, 1)] (slots_apart 2) (slots_fills 2)
omit [FloatOps F] in
theorem sL_join (c : Dev nD) : iprop((∃ f, sR c 0 f) ∗ (∃ f, sR c 1 f) ∗ (∃ f, sR c 2 f) ∗ (∃ f, sR c 3 f) ∗ emp) ⊢ (iprop(∃ f : Buf (Elt F) (sL c), sL c ↦{fullShare} f) : sProp 𝕄) :=
  cut_some_whole (ℓ := sL c) (fun i : S4x512x1024.Idx => (i 0).val) (band S4x512x1024 0) (fun _ _ _ => mem_band) 4 (fun i : S4x512x1024.Idx => (i 0).isLt) (0, 1) [(1, 1), (2, 1), (3, 1)] (slots_apart 4) (slots_fills 4)
omit [FloatOps F] in
theorem kL_join (c : Dev nD) : iprop((∃ f, kR c 0 f) ∗ (∃ f, kR c 1 f) ∗ emp) ⊢ (iprop(∃ f : Buf (Elt F) (kL c), kL c ↦{fullShare} f) : sProp 𝕄) :=
  cut_some_whole (ℓ := kL c) (fun i : S2x512x1024.Idx => (i 0).val) (band S2x512x1024 0) (fun _ _ _ => mem_band) 2 (fun i : S2x512x1024.Idx => (i 0).isLt) (0, 1) [(1, 1)] (slots_apart 2) (slots_fills 2)

/-! ## What a device starts with -/

/-- The argument as it was, the result holding `g`, the three scratch buffers. -/
def bufs (c : Dev nD) (g : Buf (Elt F) (oL c)) : sProp 𝕄 :=
  iprop((xL c ↦{fullShare} m (xL c)) ∗ (oL c ↦{fullShare} g) ∗ (∃ f : Buf (Elt F) (fL c), fL c ↦{fullShare} f)
    ∗ (∃ f : Buf (Elt F) (sL c), sL c ↦{fullShare} f) ∗ (∃ f : Buf (Elt F) (kL c), kL c ↦{fullShare} f))

theorem start_x (c : Dev nD) : (xL c ↦{fullShare} m (xL c) : sProp 𝕄) ⊢ sepL (interp m c) ((List.range 32).map X) :=
  (xL_cut c _ _ (cutX_apart c) (cutX_fills c)).1.trans (sepB_sepL (interp m c) (fun p : ℕ × ℕ => xR c p.1 p.2 (m (xL c))) X (fun i => (row0 c i, 512)) (fun i => Entails.refl _) (List.range 32))

theorem start_o (c : Dev nD) (g : Buf (Elt F) (oL c)) :
    (oL c ↦{fullShare} g : sProp 𝕄) ⊢ iprop(sepL (interp m c) ((List.range 32).map OWN) ∗ sepL (interp m c) [GIVE 0, GIVE 1, GIVE 2]) := by
  have e0 : sepB (fun p : ℕ × ℕ => oR c p.1 p.2 g) ((List.range 11).map fun i => (16384 * (1 - xc c) + row0 c i, 512)) ⊢ interp m c (GIVE 0) :=
    sepB_sepL (mem m (par c)) _ LX _ (fun i => by
      show oR c (16384 * (1 - xc c) + row0 c i) 512 g ⊢ iprop(∃ f, oR (par (par c)) (16384 * xc (par c) + row0 (par c) i) 512 f)
      rw [xc_par, row0_par, par_par]
      iintro H; iexists g; iexact H) _
  have e1 : sepB (fun p : ℕ × ℕ => oR c p.1 p.2 g) ((List.range 14).map fun k => (ccwRow (nxt c) k, 384)) ⊢ interp m c (GIVE 1) :=
    sepB_sepL (mem m (nxt c)) _ LCCW _ (fun i => by
      show oR c (ccwRow (nxt c) i) 384 g ⊢ iprop(∃ f, oR (prv (nxt c)) (ccwRow (nxt c) i) 384 f)
      rw [prv_nxt]
      iintro H; iexists g; iexact H) _
  have e2 : sepB (fun p : ℕ × ℕ => oR c p.1 p.2 g) ((List.range 14).map fun k => (cwRow (prv c) k, 384)) ⊢ interp m c (GIVE 2) :=
    sepB_sepL (mem m (prv c)) _ LCW _ (fun i => by
      show oR c (cwRow (prv c) i) 384 g ⊢ iprop(∃ f, oR (nxt (prv c)) (cwRow (prv c) i) 384 f)
      rw [nxt_prv]
      iintro H; iexists g; iexact H) _
  refine (oL_cut c g _ (cutI_apart c) (cutI_fills c)).1.trans ?_
  unfold cutI
  iintro H
  ihave H := (sepB_append _ _ _).1 $$ H
  icases H with ⟨H, H3⟩
  ihave H := (sepB_append _ _ _).1 $$ H
  icases H with ⟨H, H2⟩
  ihave H := (sepB_append _ _ _).1 $$ H
  icases H with ⟨H, H1⟩
  isplitl [H]
  · iapply (sepB_sepL (interp m c) (fun p : ℕ × ℕ => oR c p.1 p.2 g) OWN (fun i => (16384 * xc c + row0 c i, 512)) (fun i => by
      show oR c (16384 * xc c + row0 c i) 512 g ⊢ iprop(∃ f, oR c (16384 * xc c + row0 c i) 512 f)
      iintro H; iexists g; iexact H) (List.range 32))
    iexact H
  iapply (show iprop(interp m c (GIVE 0) ∗ interp m c (GIVE 1) ∗ interp m c (GIVE 2) ∗ emp) ⊢ sepL (interp m c) [GIVE 0, GIVE 1, GIVE 2] from Entails.refl _)
  isplitl [H1]; · iapply e0; iexact H1
  isplitl [H3]; · iapply e1; iexact H3
  isplitl [H2]; · iapply e2; iexact H2
  iempintro

theorem start_s (c : Dev nD) :
    iprop((∃ f : Buf (Elt F) (fL c), fL c ↦{fullShare} f) ∗ (∃ f : Buf (Elt F) (sL c), sL c ↦{fullShare} f) ∗ (∃ f : Buf (Elt F) (kL c), kL c ↦{fullShare} f))
      ⊢ sepL (interp m c) [VF 0, VF 1, VS 0, VS 1, VS 2, VS 3, VK 0, VK 1] := by
  iintro ⟨⟨%f, Hf⟩, ⟨%s, Hs⟩, ⟨%k, Hk⟩⟩
  ihave Hf := (fL_cut c f) $$ Hf
  ihave Hs := (sL_cut c s) $$ Hs
  ihave Hk := (kL_cut c k) $$ Hk
  icases Hf with ⟨Hf0, Hf1, -⟩
  icases Hs with ⟨Hs0, Hs1, Hs2, Hs3, -⟩
  icases Hk with ⟨Hk0, Hk1, -⟩
  iapply (show iprop((∃ f, fR c 0 f) ∗ (∃ f, fR c 1 f) ∗ (∃ f, sR c 0 f) ∗ (∃ f, sR c 1 f) ∗ (∃ f, sR c 2 f) ∗ (∃ f, sR c 3 f) ∗ (∃ f, kR c 0 f) ∗ (∃ f, kR c 1 f) ∗ emp) ⊢ sepL (interp m c) [VF 0, VF 1, VS 0, VS 1, VS 2, VS 3, VK 0, VK 1] from Entails.refl _)
  isplitl [Hf0]; · iexists f; iexact Hf0
  isplitl [Hf1]; · iexists f; iexact Hf1
  isplitl [Hs0]; · iexists s; iexact Hs0
  isplitl [Hs1]; · iexists s; iexact Hs1
  isplitl [Hs2]; · iexists s; iexact Hs2
  isplitl [Hs3]; · iexists s; iexact Hs3
  isplitl [Hk0]; · iexists k; iexact Hk0
  isplitl [Hk1]; · iexists k; iexact Hk1
  iempintro

/-- The names a device starts with, from its buffers and the protocol's ghost state. -/
theorem start_all (K : Key → ℕ) (c : Dev nD) (g : Buf (Elt F) (oL c)) :
    iprop(records m K ∗ bufs m c g ∗ sepL (interp m c) Cert.Plan.toks ∗ sepL (interp m c) ((List.range 113).map (pos · 0))
        ∗ sepL (interp m c) (fed.map Atom.cred))
      ⊢ sepL (interp m c) initA := by
  unfold bufs initA
  iintro ⟨#HR, ⟨Hx, Ho, Hs⟩, Ht, Hp, Hc⟩
  ihave Hx := (start_x m c) $$ Hx
  ihave Ho := (start_o m c g) $$ Ho
  ihave Hs := (start_s m c) $$ Hs
  icases Ho with ⟨Ho, Hg⟩
  ihave #H0 := (records_get m K c 0 (by omega)) $$ HR
  ihave #H1 := (records_get m K c 1 (by omega)) $$ HR
  icases H0 with ⟨-, #H0⟩
  icases H1 with ⟨-, #H1⟩
  iapply (sepL_append _ _ _).2
  isplitl [Hx Ho Hg Hs Ht Hp Hc]
  · iapply (sepL_append _ _ _).2
    isplitl [Hx Ho Hg Hs Ht Hp]
    · iapply (sepL_append _ _ _).2
      isplitl [Hx Ho Hg Hs Ht]
      · iapply (sepL_append _ _ _).2
        isplitl [Hx Ho Hg Hs]
        · iapply (sepL_append _ _ _).2
          isplitl [Hx Ho Hs]
          · iapply (sepL_append _ _ _).2
            isplitl [Hx Hs]
            · iapply (sepL_append _ _ _).2
              isplitl [Hx] <;> iassumption
            iexact Ho
          iexact Hg
        iexact Ht
      iexact Hp
    iexact Hc
  iapply (show iprop(reached ER (cellAt c 0) 0 ∗ reached ER (cellAt c 1) 0 ∗ emp) ⊢ sepL (interp m c) [rch 0 0, rch 1 0] from Entails.refl _)
  isplitr; · iexact H0
  isplitr; · iexact H1
  iempintro

/-! ## What a device ends with -/

theorem end_o (c : Dev nD) :
    sepL (interp m c) ((List.range 32).map OWNf ++ (List.range' 3 8).map XF ++ (List.range 16).map PCW ++ (List.range 16).map PCCW)
      ⊢ (oL c ↦{fullShare} outC m c : sProp 𝕄) := by
  refine BIBase.Entails.trans ?_ (oL_cut c (outC m c) _ (cutF_apart c) (cutF_fills c)).2
  unfold cutF
  iintro H
  ihave H := (sepL_append _ _ _).1 $$ H
  icases H with ⟨H, H3⟩
  ihave H := (sepL_append _ _ _).1 $$ H
  icases H with ⟨H, H2⟩
  ihave H := (sepL_append _ _ _).1 $$ H
  icases H with ⟨H, H1⟩
  iapply (sepB_append _ _ _).2
  isplitl [H H1 H2]
  · iapply (sepB_append _ _ _).2
    isplitl [H H1]
    · iapply (sepB_append _ _ _).2
      isplitl [H]
      · iapply (sepL_sepB (interp m c) (fun p : ℕ × ℕ => oR c p.1 p.2 (outC m c)) OWNf (fun i => (16384 * xc c + row0 c i, 512)) (fun i => Entails.refl _) (List.range 32))
        iexact H
      iapply (sepL_sepB (interp m c) (fun p : ℕ × ℕ => oR c p.1 p.2 (outC m c)) XF (fun i => (16384 * (1 - xc c) + row0 c i, 512)) (fun i => Entails.refl _) (List.range' 3 8))
      iexact H1
    iapply (sepL_sepB (interp m c) (fun p : ℕ × ℕ => oR c p.1 p.2 (outC m c)) PCW (fun k => (cwRow c k, 384)) (fun i => Entails.refl _) (List.range 16))
    iexact H2
  iapply (sepL_sepB (interp m c) (fun p : ℕ × ℕ => oR c p.1 p.2 (outC m c)) PCCW (fun k => (ccwRow c k, 384)) (fun i => Entails.refl _) (List.range 16))
  iexact H3

theorem end_s (c : Dev nD) :
    sepL (interp m c) [VF 0, VF 1, VS 0, VS 1, VS 2, VS 3, VK 0, VK 1]
      ⊢ iprop((∃ f : Buf (Elt F) (fL c), fL c ↦{fullShare} f) ∗ (∃ f : Buf (Elt F) (sL c), sL c ↦{fullShare} f) ∗ (∃ f : Buf (Elt F) (kL c), kL c ↦{fullShare} f)) := by
  show iprop((∃ f, fR c 0 f) ∗ (∃ f, fR c 1 f) ∗ (∃ f, sR c 0 f) ∗ (∃ f, sR c 1 f) ∗ (∃ f, sR c 2 f) ∗ (∃ f, sR c 3 f) ∗ (∃ f, kR c 0 f) ∗ (∃ f, kR c 1 f) ∗ emp) ⊢ _
  iintro ⟨Hf0, Hf1, Hs0, Hs1, Hs2, Hs3, Hk0, Hk1, -⟩
  isplitl [Hf0 Hf1]
  · iapply (fL_join c)
    isplitl [Hf0]; · iexact Hf0
    isplitl [Hf1]; · iexact Hf1
    iempintro
  isplitl [Hs0 Hs1 Hs2 Hs3]
  · iapply (sL_join c)
    isplitl [Hs0]; · iexact Hs0
    isplitl [Hs1]; · iexact Hs1
    isplitl [Hs2]; · iexact Hs2
    isplitl [Hs3]; · iexact Hs3
    iempintro
  iapply (kL_join c)
  isplitl [Hk0]; · iexact Hk0
  isplitl [Hk1]; · iexact Hk1
  iempintro

/-- A name read as its semaphore's counter at zero. -/
def zero (c : Dev nD) (a : Atom) : sProp 𝕄 := semVal (cellAt c a.idx) 0

/-- Positions past the last round close their semaphores. -/
theorem close_all (K : Key → ℕ) (c : Dev nD) (R : ℕ) : ∀ l : List ℕ, (∀ s ∈ l, s < 113 ∧ rounds s ≤ R) →
    iprop(records m K ∗ sepL (interp m c) (l.map (pos · R))) ⊢ |={Set.univ}=> sepL (zero (F := F) c) (l.map (pos · 0))
  | [], _ => by
    iintro ⟨-, -⟩
    imodintro
    iempintro
  | s :: l, h => by
    obtain ⟨hs, hR⟩ := h s List.mem_cons_self
    show iprop(records m K ∗ atPos ER (cellAt c s) R ∅ 0 ∗ sepL (interp m c) (l.map (pos · R))) ⊢ _
    iintro ⟨#HR, Ha, H⟩
    ihave #HI := (records_get m K c s hs) $$ HR
    icases HI with ⟨#HI, -⟩
    imod (Rounds.cell_close ER (Rd m) (Set.mem_univ (K (c, ⟨s, hs⟩))) (fun h => h) (R := R)
      (fun r hr => by rw [Rd_duties m c s r hs]; exact dutyOf_later s r (by omega))) $$ [Ha] with Hz
    · isplitr; · iexact HI
      iexact Ha
    imod (close_all K c R l fun s' hs' => h s' (List.mem_cons_of_mem _ hs')) $$ [H] with H
    · isplitr; · iexact HR
      iexact H
    imodintro
    iapply (show iprop(semVal (cellAt c s) 0 ∗ sepL (zero (F := F) c) (l.map (pos · 0))) ⊢ sepL (zero (F := F) c) ((s :: l).map (pos · 0)) from Entails.refl _)
    isplitl [Hz]; · iexact Hz
    iexact H

/-- The buffers, the result holding its final contents, and every semaphore at zero, from the names a device ends with. -/
theorem end_all (K : Key → ℕ) (c : Dev nD) :
    iprop(records m K ∗ sepL (interp m c) finA)
      ⊢ |={Set.univ}=> iprop(bufs m c (outC m c) ∗ sepL (zero (F := F) c) ((List.range 113).map (pos · 0))) := by
  unfold bufs finA
  iintro ⟨#HR, H⟩
  ihave H := (sepL_append _ _ _).1 $$ H
  icases H with ⟨H, H4⟩
  ihave H := (sepL_append _ _ _).1 $$ H
  icases H with ⟨H, H3⟩
  ihave H := (sepL_append _ _ _).1 $$ H
  icases H with ⟨H, H2⟩
  ihave H := (sepL_append _ _ _).1 $$ H
  icases H with ⟨H, H1⟩
  imod (close_all m K c 16 [0, 1] (fun s hs => by
    have : s < 2 := by rcases List.mem_cons.1 hs with h | h
                       · omega
                       · rw [List.mem_singleton.1 h]; omega
    unfold rounds; rw [if_pos this]; omega)) $$ [H3] with H3
  · isplitr; · iexact HR
    iexact H3
  imod (close_all m K c 1 (List.range' 2 111) (fun s hs => by
    have := List.mem_range'_1.1 hs
    unfold rounds; rw [if_neg (by omega)]; omega)) $$ [H4] with H4
  · isplitr; · iexact HR
    iexact H4
  imodintro
  isplitl [H H1 H2]
  · isplitl [H]
    · iapply (xL_cut c _ _ (cutX_apart c) (cutX_fills c)).2
      iapply (sepL_sepB (interp m c) (fun p : ℕ × ℕ => xR c p.1 p.2 (m (xL c))) X (fun i => (row0 c i, 512)) (fun i => Entails.refl _) (List.range 32))
      iexact H
    isplitl [H2]; · iapply (end_o m c); iexact H2
    iapply (end_s m c); iexact H1
  rw [show (List.range 113).map (pos · 0) = [0, 1].map (pos · 0) ++ (List.range' 2 111).map (pos · 0) from rfl]
  iapply (sepL_append _ _ _).2
  isplitl [H3]; · iexact H3
  iexact H4

end Cert.KernelIdeal.Ring

end
-- ==== Proof.KernelIdeal.Launch.lean ====
/-
The launch: the protocol's ghost state made and dealt to its devices, the kernel's body on each, and the whole run.
-/
module

public import proofs.«01_k».proof.Proof.KernelIdeal.Parts
public import proofs.«01_k».proof.Proof.Gen.KernelIdeal.Points
public import Idealize.ShloMosaic.Lib.Pipeline.CollectiveSegs

@[expose] public section

set_option backward.proofsInPublic true

noncomputable section

namespace Cert.KernelIdeal.Ring

open Cert.KernelIdeal Cert.KernelIdeal.Gen Cert.Geo Cert.Plan Cert.Plan.Atom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- The protocol's share of a device at the start. -/
def ghost (c : Dev nD) : sProp 𝕄 := iprop(∃ K, records m K ∗ sepL (interp m c) Cert.Plan.toks ∗ sepL (interp m c) ((List.range 113).map (pos · 0)))
/-- The credits of a device at the start. -/
def funds (c : Dev nD) : sProp 𝕄 := sepL (interp m c) (fed.map Atom.cred)
/-- What the region takes in besides its scratch. -/
def start (c : Dev nD) : sProp 𝕄 :=
  iprop((xL c ↦{fullShare} m (xL c)) ∗ (oL c ↦{fullShare} m (oL c)) ∗ levAts L lv ∗ funds m c ∗ ghost m c)
def Φ₀ (c : Dev nD) : sProp 𝕄 := iprop(bufs m c (m (oL c)) ∗ levAts L lv ∗ funds m c ∗ ghost m c)
def Φ₁ (c : Dev nD) : sProp 𝕄 := iprop(bufs m c (outC m c) ∗ sepL (zero (F := F) c) ((List.range 113).map (pos · 0)))

/-- What device `c` owes at the start. -/
def O₀ (c : Dev nD) : CellTallies nD τ sig Unit := dueO c dues

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

/-- The kernel's body at the program's buffers. -/
abbrev theBody : PR F :=
  cc0_body xM xW oM oW fM fW sM sW kM kW cc0_scratch3 cc0_scratch4 cc0_scratch5 cc0_scratch6 cc0_scratch7 cc0_scratch8 cc0_scratch9 cc0_scratch10
theorem theBody_eq : (theBody : PR F) = .op .deviceId fun c => seqAll (plan.map (instr c)) := by
  unfold theBody; rw [cc0_body_eq_skeleton]; exact body_eq

theorem sound_body (c : Dev nD) (W : Waits sig Unit) (Kt : PUnit → sProp 𝕄) :
    iprop(Φ₀ m c ∗ owes (c : Thread nD τ) (O₀ c) W ∗ (Φ₁ m c ∗ (∃ W', owes (c : Thread nD τ) (0 : CellTallies nD τ sig Unit) W') -∗ Kt ⟨⟩))
      ⊢ wp frame (wpE (defs₀ (F := F)) 𝒱₀ (c : Thread nD τ) none) Set.univ theBody Kt := by
  rw [theBody_eq, wp_deviceId]
  obtain ⟨al, rest, hrun, htake⟩ := run_plan
  unfold Φ₀ ghost funds
  iintro ⟨⟨Hb, #HL, Hc, ⟨%K, #HR, Ht, Hp⟩⟩, HO, Hk⟩
  ihave HA := (start_all m K c (m (oL c))) $$ [Hb Ht Hp Hc]
  · isplitr; · iexact HR
    isplitl [Hb]; · iexact Hb
    isplitl [Ht]; · iexact Ht
    isplitl [Hp]; · iexact Hp
    iexact Hc
  ihave HA := (run_ops m K c (fun u => iprop(|={Set.univ}=> Kt u)) plan (initA, dues) (al, []) hrun) $$ [HA HO]
  · isplitr; · iexact HR
    isplitr; · iexact HL
    isplitl [HA]; · iexact HA
    unfold owesE
    iexists W; iexact HO
  iapply wp_fupd
  iapply HA
  iintro ⟨HA, HO⟩
  ihave HA := (sepL_takeAll (interp m c) finA al rest htake) $$ HA
  icases HA with ⟨HA, -⟩
  imod (end_all m K c) $$ [HA] with HE
  · isplitr; · iexact HR
    iexact HA
  imodintro
  iapply Hk
  isplitl [HE]; · unfold Φ₁; iexact HE
  iapply (show owesE (F := F) c [] ⊢ iprop(∃ W', owes c 0 W') from Entails.refl _)
  iexact HO

theorem no_windows : (Finset.univ : Finset (Fin cfg0.W)) = ∅ := Finset.eq_empty_of_forall_notMem fun w => w.elim0

set_option maxRecDepth 65536 in
theorem body_obligation (c : Dev nD) : BodyObligation (dats (F := F) m 0 c) (defs₀ (F := F)) 𝒱₀ () Set.univ := fun t => by
  rw [fin_N0 t, no_windows, bigSep_empty, bigSep_empty]
  show iprop(Φ₀ m c ∗ (dats m 0 c).owesAt () t0_0.castSucc ∗ emp) ⊢ wp frame (wpE (defs₀ (F := F)) 𝒱₀ (c : Thread nD τ) none) Set.univ theBody
    (fun _ => iprop(Φ₁ m c ∗ (dats m 0 c).owesAt () t0_0.succ ∗ emp))
  unfold Dat.owesAt Pipeline.owesWithin
  rw [show (dats m 0 c).owed t0_0.castSucc = O₀ c from rfl, show (dats m 0 c).owed t0_0.succ = 0 from rfl]
  iintro ⟨HΦ, ⟨%W, %hW, HO⟩, -⟩
  iapply (sound_body m c W)
  isplitl [HΦ]; · iexact HΦ
  isplitl [HO]; · iexact HO
  iintro ⟨HΦ, ⟨%W', HO⟩⟩
  isplitl [HΦ]; · iexact HΦ
  isplitl [HO]
  · iexists W'
    isplitr; · ipureintro; exact fun _ _ => Or.inl trivial
    iexact HO
  iempintro

/-! ## The protocol's ghost state -/

theorem fin_list (n : ℕ) : (Finset.univ : Finset (Fin n)) = (List.finRange n).toFinset := by ext; simp

/-- The kernel's own semaphores. -/
def osem (k : Fin 112) : SemLoc sig := .dma k
theorem ownSemFacts : Pipeline.OwnSemFacts cfg0.spec osem where
  isScoped := by decide +kernel
  inj := fun a b h => by cases h; rfl
  disj := fun _ w _ => w.elim0

theorem semOf_lt (k : Fin 112) : semOf k.val = .dma k := dif_pos k.isLt

theorem kcell_injective : Function.Injective kcell := by
  rintro ⟨c, s⟩ ⟨c', s'⟩ h
  have h1 : c = c' := congrArg (fun g : GSem nD τ sig => g.1.1) h
  have h2 := congrArg (fun g : GSem nD τ sig => semIx g.2) h
  have h3 : s.val = s'.val := by rw [← semIx_semOf s.val s.isLt, ← semIx_semOf s'.val s'.isLt]; exact h2
  rw [h1, Fin.ext h3]
def ringCells : Finset (GSem nD τ sig) := Finset.univ.map ⟨kcell, kcell_injective⟩

/-- The rights to pay of one device: semaphore and duty. -/
def tokL : List (ℕ × ℕ) :=
  (List.range 16).map (fun a => (0, a)) ++ (List.range 16).map (fun a => (1, a)) ++ (List.range' 2 110).map (fun s => (s, 0)) ++ [(112, 0), (112, 1), (112, 2)]
theorem tokL_toks : tokL.map (fun p => tok p.1 p.2) = Cert.Plan.toks := by rfl
theorem tokL_nodup : tokL.Nodup := by decide +kernel
theorem tokL_lt : ∀ p ∈ tokL, p.1 < 113 := by decide +kernel

/-- A semaphore's payer is known from the device paid, and the other way round. -/
theorem tdev_bij (s a : ℕ) : ∃ inv : Dev nD → Dev nD, (∀ c, tdev (inv c) s a = c) ∧ (∀ c, inv (tdev c s a) = c) := by
  unfold tdev sigDev
  split_ifs
  all_goals first
    | exact ⟨id, fun _ => rfl, fun _ => rfl⟩
    | exact ⟨par, par_par, par_par⟩
    | exact ⟨prv, nxt_prv, prv_nxt⟩
    | exact ⟨nxt, prv_nxt, nxt_prv⟩

/-- The rights to pay as the ghost state has them, by who holds them. -/
def tokKey (x : Dev nD × Fin tokL.length) : GSem nD τ sig × ℕ × ℕ :=
  (cellAt (tdev x.1 (tokL.get x.2).1 (tokL.get x.2).2) (tokL.get x.2).1, rOf (tokL.get x.2).1 (tokL.get x.2).2, (tokL.get x.2).2)
theorem tokKey_injective : Function.Injective tokKey := by
  rintro ⟨c, j⟩ ⟨c', j'⟩ h
  have h1 : tdev c (tokL.get j).1 (tokL.get j).2 = tdev c' (tokL.get j').1 (tokL.get j').2 := congrArg (fun x : GSem nD τ sig × ℕ × ℕ => x.1.1.1) h
  have h2 := congrArg (fun x : GSem nD τ sig × ℕ × ℕ => semIx x.1.2) h
  have h3 : (tokL.get j).2 = (tokL.get j').2 := congrArg (fun x : GSem nD τ sig × ℕ × ℕ => x.2.2) h
  have h4 : (tokL.get j).1 = (tokL.get j').1 := by
    rw [← semIx_semOf _ (tokL_lt _ (List.get_mem tokL j)), ← semIx_semOf _ (tokL_lt _ (List.get_mem tokL j'))]; exact h2
  have h5 : j = j' := List.nodup_iff_injective_get.1 tokL_nodup (Prod.ext h4 h3)
  subst h5
  obtain ⟨inv, -, hi⟩ := tdev_bij (tokL.get j).1 (tokL.get j).2
  have h6 : c = c' := by rw [← hi c, ← hi c', h1]
  rw [h6]
def ringToks : Finset (GSem nD τ sig × ℕ × ℕ) := Finset.univ.map ⟨tokKey, tokKey_injective⟩

def u₀ : UU := (initOf (Pipeline.cells cfgs cellOf_inj) (Pipeline.launchToks cfgs cellOf_inj), initOf ringCells ringToks)

/-- What the launch deals device `c`. -/
def G (c : Dev nD) : sProp 𝕄 :=
  iprop((bigSep Finset.univ fun k : Fin 113 => roundState ER (Rd m) (kcell (c, k)) 0)
    ∗ (bigSep Finset.univ fun k : Fin 113 => reached ER (kcell (c, k)) 0)
    ∗ (bigSep Finset.univ fun k : Fin 113 => atPos ER (kcell (c, k)) 0 ∅ 0)
    ∗ sepL (interp m c) Cert.Plan.toks)

theorem deal_toks (c : Dev nD) :
    (bigSep Finset.univ fun j : Fin tokL.length => (dutyTok ER (tokKey (c, j)).1 (tokKey (c, j)).2.1 (tokKey (c, j)).2.2 : sProp 𝕄)) ⊢ sepL (interp m c) Cert.Plan.toks := by
  rw [bigSep_univ_eq_bigSepL (List.finRange tokL.length) (fin_list _) (List.nodup_finRange _), ← tokL_toks,
    show tokL.map (fun p => tok p.1 p.2) = (List.finRange tokL.length).map (fun j => tok (tokL.get j).1 (tokL.get j).2) from by
      conv_lhs => rw [← List.map_get_finRange tokL, List.map_map]
      rfl]
  exact bigSepL_sepL (interp m c) _ (fun j : Fin tokL.length => tok (tokL.get j).1 (tokL.get j).2) (fun j => Entails.refl _) _

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 113 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => sepL (interp m c) Cert.Plan.toks := by
    unfold ringToks; rw [bigSep_map, bigSep_univ_prod]
    exact bigSep_mono fun c _ => deal_toks m c
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hr]; · iexact Hr
  isplitl [Hat]; · iexact Hat
  iexact Htok

/-! ### The semaphores -/

theorem range_fin (n : ℕ) (A : ℕ → Atom) : (List.range n).map A = (List.finRange n).map (fun k => A k.val) := by
  rw [← List.map_coe_finRange_eq_range, List.map_map]; rfl

theorem sems_split (c : Dev nD) :
    sepL (zero (F := F) c) ((List.range 113).map (pos · 0)) ⊣⊢ iprop(sepL (zero (F := F) c) ((List.range 112).map (pos · 0)) ∗ semVal (cellAt c 112) 0 ∗ emp) :=
  sepL_append (zero (F := F) c) ((List.range 112).map (pos · 0)) [pos 112 0]

theorem own_zero (c : Dev nD) (k : Fin 112) : (semVal ((c : Thread nD τ), osem k) 0 : sProp 𝕄) = zero (F := F) c (pos k.val 0) := by
  show _ = semVal (cellAt c k.val) 0
  rw [cellAt, semOf_lt k]; rfl

theorem ownSems0_list (c : Dev nD) : (Pipeline.ownSems0 (Ix := Unit) (Name := ℕ) (U := UU) (Lvl := ℕ) (Val := Elt F) (τ := τ) osem c : sProp 𝕄)
    ⊣⊢ sepL (zero (F := F) c) ((List.range 112).map (pos · 0)) := by
  rw [Pipeline.ownSems0_eq_of_list c osem (List.finRange 112) (fin_list _) (List.nodup_finRange _), range_fin 112 (pos · 0)]
  exact ⟨bigSepL_sepL (zero (F := F) c) _ _ (fun k => Entails.of_eq (own_zero c k)) _, sepL_bigSepL (zero (F := F) c) _ _ (fun k => Entails.of_eq (own_zero c k).symm) _⟩

theorem unscopedSems0_eq (c : Dev nD) : (unscopedSems0 c : sProp 𝕄) = semVal (cellAt c 112) 0 := by
  unfold unscopedSems0; rw [bigSep_eq_bigSepL_of_eq [SemLoc.reg barS] (by decide +kernel) (by decide)]; rfl

theorem sems0_cells (c : Dev nD) :
    iprop(Pipeline.ownSems0 (Ix := Unit) (Name := ℕ) (U := UU) (Lvl := ℕ) (Val := Elt F) (τ := τ) osem c ∗ unscopedSems0 c)
      ⊢ (bigSep Finset.univ fun k : Fin 113 => semVal (kcell (c, k)) 0 : sProp 𝕄) := by
  rw [bigSep_univ_eq_bigSepL (List.finRange 113) (fin_list _) (List.nodup_finRange _), unscopedSems0_eq]
  iintro ⟨HS, HV⟩
  ihave HS := (ownSems0_list c).1 $$ HS
  iapply (sepL_bigSepL (zero (F := F) c) (fun k : Fin 113 => semVal (kcell (c, k)) 0) (fun k => pos k.val 0) (fun k => Entails.refl _) (List.finRange 113))
  rw [← range_fin 113 (pos · 0)]
  iapply (sems_split c).2
  isplitl [HS]; · iexact HS
  isplitl [HV]; · iexact HV
  iempintro

theorem cells_sems0 (c : Dev nD) :
    sepL (zero (F := F) c) ((List.range 113).map (pos · 0))
      ⊢ iprop(Pipeline.ownSems0 (Ix := Unit) (Name := ℕ) (U := UU) (Lvl := ℕ) (Val := Elt F) (τ := τ) osem c ∗ unscopedSems0 c) := by
  rw [unscopedSems0_eq]
  iintro H
  ihave H := (sems_split c).1 $$ H
  icases H with ⟨HS, HV, -⟩
  isplitl [HS]; · iapply (ownSems0_list c).2; iexact HS
  iexact HV

theorem pos_list (c : Dev nD) : (bigSep Finset.univ fun k : Fin 113 => (atPos ER (kcell (c, k)) 0 ∅ 0 : sProp 𝕄)) ⊢ sepL (interp m c) ((List.range 113).map (pos · 0)) := by
  rw [bigSep_univ_eq_bigSepL (List.finRange 113) (fin_list _) (List.nodup_finRange _), range_fin 113 (pos · 0)]
  exact bigSepL_sepL (interp m c) _ (fun k : Fin 113 => pos k.val 0) (fun k => Entails.refl _) (List.finRange 113)

/-- What the launch's first step makes at each device: its semaphores' invariants; -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 113 => iprop(∃ κ : ℕ, cellInv ER (Rd m) κ (kcell (c, k))))
          ∗ (bigSep Finset.univ fun k : Fin 113 => reached ER (kcell (c, k)) 0)
          ∗ (sepL (interp m c) Cert.Plan.toks ∗ sepL (interp m c) ((List.range 113).map (pos · 0)))) := by
  unfold G
  iintro ⟨Hos, Hus, Hst, Hr, Hat, Htok⟩
  ihave Hv := (sems0_cells (F := F) c) $$ [Hos Hus]
  · isplitl [Hos] <;> iassumption
  imod (show iprop((bigSep Finset.univ fun k : Fin 113 => semVal (kcell (c, k)) 0) ∗ bigSep Finset.univ fun k : Fin 113 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  iapply (pos_list m c); iexact Hat

/-- then all devices share all invariants. -/
theorem regroup :
    (bigSep Finset.univ fun c : Dev nD => iprop((bigSep Finset.univ fun k : Fin 113 => iprop(∃ κ : ℕ, cellInv ER (Rd m) κ (kcell (c, k))))
          ∗ (bigSep Finset.univ fun k : Fin 113 => reached ER (kcell (c, k)) 0)
          ∗ (sepL (interp m c) Cert.Plan.toks ∗ sepL (interp m c) ((List.range 113).map (pos · 0)))) : sProp 𝕄)
      ⊢ bigSep Finset.univ (ghost m) := by
  rw [bigSep_sep', bigSep_sep', ← bigSep_univ_prod (fun ck : Key => iprop(∃ κ : ℕ, cellInv ER (Rd m) κ (kcell ck))),
    ← bigSep_univ_prod (fun ck : Key => (reached ER (kcell ck) 0 : sProp 𝕄))]
  iintro ⟨HI, #HR, Hown⟩
  ihave HK := (BI.bigSep_exists_pi Finset.univ (fun (ck : Key) (κ : ℕ) => (cellInv ER (Rd m) κ (kcell ck) : sProp 𝕄))) $$ HI
  icases HK with ⟨%K, #HI⟩
  iapply (BI.bigSep_with_persistent (R := records m K) (Φ := fun c : Dev nD => iprop(sepL (interp m c) Cert.Plan.toks ∗ sepL (interp m c) ((List.range 113).map (pos · 0))))
    (Ψ := ghost m) fun c _ => by
      unfold ghost
      iintro ⟨#H, Ht, Hp⟩
      iexists K
      isplitr; · iexact H
      isplitl [Ht] <;> iassumption)
  isplitr
  · unfold records
    rw [bigSep_sep']
    isplitl; · iexact HI
    iexact HR
  iexact Hown

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ### The launch credit -/

/-- A name read as the credit of one signal. -/
def unit1 (c : Dev nD) (a : Atom) : sProp 𝕄 := cred (tallyAt (cellAt c a.idx) () (amt a.idx))

theorem creds_list (c : Dev nD) : ∀ ds : List (ℕ × ℕ),
    (Pipeline.launchCred (fun d => dueO d ds) c : sProp 𝕄) ⊢ sepL (unit1 (F := F) c) (ds.map fun p => tok p.1 p.2)
  | [] => by
    iintro -; iempintro
  | p :: ds => by
    show (Pipeline.launchCred (fun d => dueO d ds + tallyAt (cellAt (tdev d p.1 p.2) p.1) () (amt p.1)) c : sProp 𝕄)
      ⊢ iprop(cred (tallyAt (cellAt c p.1) () (amt p.1)) ∗ sepL (unit1 (F := F) c) (ds.map fun p => tok p.1 p.2))
    rw [Pipeline.launchCred_add (fun d => dueO d ds) (fun d => tallyAt (cellAt (tdev d p.1 p.2) p.1) () (amt p.1)) c]
    obtain ⟨inv, h1, h2⟩ := tdev_bij p.1 p.2
    iintro ⟨H1, H2⟩
    isplitl [H2]
    · iapply (Pipeline.launchCred_tallyAt (semOf p.1) (fun d => tdev d p.1 p.2) inv h1 h2 () (amt p.1) c)
      iexact H2
    iapply (creds_list c ds); iexact H1

/-- Who is paid from elsewhere, signal by signal. -/
def fedT : List Atom := (List.range' 45 11 ++ List.range' 70 14 ++ List.range' 98 14).map (tok · 0) ++ [tok 112 0, tok 112 1, tok 112 2]
theorem fedT_take : takeAll fedT (dues.map fun p => tok p.1 p.2) = some [] := by rfl

theorem sepL_need (c : Dev nD) : ∀ l : List ℕ, (∀ s ∈ l, s < 112) → sepL (unit1 (F := F) c) (l.map (tok · 0)) ⊢ sepL (interp m c) (l.map Atom.cred)
  | [], _ => Entails.refl _
  | s :: l, h => BIClass.sep_mono (by
      show (cred (tallyAt (cellAt c s) () (amt s)) : sProp 𝕄) ⊢ cred (tallyAt (cellAt c s) () (need s))
      rw [need_lt (h s List.mem_cons_self)]) (sepL_need c l fun s' hs' => h s' (List.mem_cons_of_mem _ hs'))

theorem creds (c : Dev nD) : (Pipeline.launchCred O₀ c : sProp 𝕄) ⊢ funds m c := by
  unfold funds
  iintro H
  ihave H := (show (Pipeline.launchCred O₀ c : sProp 𝕄) ⊢ _ from creds_list (F := F) c dues) $$ H
  ihave H := (sepL_takeAll (unit1 (F := F) c) fedT _ _ fedT_take) $$ H
  icases H with ⟨H, -⟩
  unfold fedT
  ihave H := (sepL_append _ _ _).1 $$ H
  icases H with ⟨H, HB⟩
  rw [show fed.map Atom.cred = (List.range' 45 11 ++ List.range' 70 14 ++ List.range' 98 14).map Atom.cred ++ [Atom.cred 112] from rfl]
  iapply (sepL_append _ _ _).2
  isplitl [H]
  · iapply (sepL_need m c _ (by decide +kernel)); iexact H
  iapply (show sepL (unit1 (F := F) c) [tok 112 0, tok 112 1, tok 112 2] ⊢ sepL (interp m c) [Atom.cred 112] from by
    show iprop(cred (tallyAt (cellAt c 112) () 1) ∗ cred (tallyAt (cellAt c 112) () 1) ∗ cred (tallyAt (cellAt c 112) () 1) ∗ emp)
      ⊢ iprop(cred (tallyAt (cellAt c 112) () 3) ∗ emp)
    iintro ⟨H1, H2, H3, -⟩
    isplitl
    · rw [show (3 : ℕ) = 1 + (1 + 1) from rfl, ← tallyAt_add, ← tallyAt_add]
      iapply (cred_add _ _).2
      isplitl [H1]; · iexact H1
      iapply (cred_add _ _).2
      isplitl [H2] <;> iassumption
    iempintro)
  iexact HB

/-! ### The whole run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_eq_of_list cfg0.spec c Pipeline.Prefetch.none (fun b => m ((c : Thread nD τ).loc b)) [main_arg0, main_v1] (by decide) (by decide)]
  show iprop(((xL c ↦{fullShare} m (xL c)) ∗ (oL c ↦{fullShare} m (oL c))) ∗ _) ⊢ _
  iintro ⟨⟨Hx, Ho⟩, Hlev, Hcr, -, HG⟩
  ihave Hc := (creds m c) $$ Hcr
  imodintro
  unfold start
  isplitl
  · isplitl [Hx]; · iexact Hx
    isplitl [Ho]; · iexact Ho
    isplitl [Hlev]; · iexact Hlev
    isplitl [Hc]; · iexact Hc
    iexact HG
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start bufs
  iintro ⟨⟨Hx, Ho, Hlev, Hc, HG⟩, -, HS⟩
  isplitl [Hx Ho HS]
  · isplitl [Hx]; · iexact Hx
    isplitl [Ho]; · iexact Ho
    iexact HS
  isplitl [Hlev]; · iexact Hlev
  isplitl [Hc]; · iexact Hc
  iexact HG

/-- What the region gives back besides its scratch. -/
def final (c : Dev nD) : sProp 𝕄 := iprop((xL c ↦{fullShare} m (xL c)) ∗ (oL c ↦{fullShare} outC m c) ∗ unscopedSems0 c)

theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq]
  unfold Φ₁ bufs final
  iintro ⟨⟨Hx, Ho, HS⟩, Hz⟩
  ihave Hz := (cells_sems0 c) $$ Hz
  icases Hz with ⟨Hown, Hun⟩
  isplitl [Hx Ho Hun]
  · isplitl [Hx]; · iexact Hx
    isplitl [Ho] <;> iassumption
  isplitl [Hown]; · iexact Hown
  iexact HS

theorem waits (c : Dev nD) : (levAts L lv : sProp 𝕄) ⊢ Pipeline.cellsWaits cfgs (dats m) () 0 c :=
  Pipeline.cellsWaits_intro cfgs (dats m) () 0 c fun w _ _ => w.elim0

/-- What a final state holds. -/
def Final (s : MemSt nD τ sig (Elt F)) : Prop :=
  (∀ c : Dev nD, s.mem (xL c) = m (xL c) ∧ s.mem (oL c) = outC m c) ∧ s.sem = fun _ => 0

theorem final_read (c : Dev nD) (s' : Phys nD τ sig (Elt F)) :
    iprop(final m c ∗ emp ∗ SI s') ⊢ |={Set.univ}=> iprop(⌜(s'.mem.mem (xL c) = m (xL c) ∧ s'.mem.mem (oL c) = outC m c)
      ∧ ∀ sm : SemLoc sig, sm.isScoped .tc = false → s'.mem.sem ((c.tc : Thread nD τ), sm) = 0⌝ ∗ SI s' : sProp 𝕄) := by
  unfold final
  iintro ⟨⟨Hx, Ho, Hu⟩, -, HSI⟩
  ihave %h1 := (SI_pointsTo_agree (ℓ := xL c) (st := s')) $$ [HSI Hx]
  · isplitl [HSI] <;> iassumption
  ihave %h2 := (SI_pointsTo_agree (ℓ := oL c) (st := s')) $$ [HSI Ho]
  · isplitl [HSI] <;> iassumption
  imod (Pipeline.unscopedSems0_read (X := unscopedSems0 c) (c := c) fupd_intro s') $$ [Hu HSI] with ⟨%h3, HSI⟩
  · isplitl [Hu] <;> iassumption
  imodintro
  isplitr
  · ipureintro
    exact ⟨⟨funext fun i => h1 i (Finset.mem_univ i), funext fun i => h2 i (Finset.mem_univ i)⟩, h3⟩
  iexact HSI

set_option maxRecDepth 65536 in
/-- From any memory with zero counters every weakly fair execution of the program ends, and every final state has each device's
    result at the named contents, its argument unchanged and every counter at zero. -/
theorem run_main : θ_run defs (onTc (τ := τ) (main (F := F))) (s₀ m ρ) (fun r => Final m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := fun g h => if_neg h) (hwaits := waits m)
    (G := G m) (G' := ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := final m) (Z := fun _ => iprop(emp))
    (hX := start_intro m ρ) (hin := phi0_intro m) (hout := phi1_exit m)
    (QY := fun c s => (s.mem (xL c) = m (xL c) ∧ s.mem (oL c) = outC m c) ∧ ∀ sm : SemLoc sig, sm.isScoped .tc = false → s.sem ((c.tc : Thread nD τ), sm) = 0)
    (hY := final_read m)
    (hQ := fun _ h hs => ⟨fun c => (h c).2.2.1, sem_eq_zero hs fun c => (h c).2.2.2⟩)

end Cert.KernelIdeal.Ring

end
-- ==== Proof.Value.lean ====
/-
The value: the device's result is its block of the reference's result.
-/
module

public import proofs.«01_k».proof.Proof.KernelIdeal.Res
public import proofs.«01_k».proof.Proof.Gen.ReferenceIdeal
public import Idealize.ShloMosaic.Lib.Layout
public import Idealize.ShloMosaic.PureOps.Ideal

@[expose] public section

set_option backward.proofsInPublic true

noncomputable section

namespace Cert.Value

open Idealize.ShloMosaic Idealize.ShloMosaic.TcCoe
open Cert.Geo Cert.KernelIdeal Cert.KernelIdeal.Ring

/-- The source of a row of the whole array lies in the half of the mesh that holds the row. -/
theorem xc_srcDev (c : Fin 16) (row : ℕ) (h : row < 32768) : xc (srcDev c row) = row / 16384 := by
  have hx := xc_lt c
  unfold srcDev
  split_ifs with h1
  · exact h1.symm
  · rw [xc_par]; omega
  · rw [xc_devAt]; omega

/-- The first mesh coordinate of device `c`. -/
theorem meshLin_x (c : Fin 16) : Layout.meshLin [2, 2, 4] c.val [0] = xc c := by revert c; decide +kernel

/-- The index read on the source device and the index of the result are the same place of the whole array. -/
theorem place_eq (c : Fin 16) (i : S32768x1024.Idx)
    (h : Layout.TilesN ⟨2, ![16384, 2048]⟩ ⟨2, ![32768, 2048]⟩ (fun b => Layout.cutSize [2, 2, 4] ((![[0], []] : Fin 2 → List ℕ) b)))
    (h' : Layout.TilesN ⟨2, ![32768, 1024]⟩ ⟨2, ![32768, 2048]⟩ (fun b => Layout.cutSize [2, 2, 4] ((![[], [0]] : Fin 2 → List ℕ) b))) :
    h.idx (Layout.meshBlock [2, 2, 4] ![[0], []] (srcDev c (i 0).val)) (xIx ((i 0).val % 16384) (1024 * xc c + (i 1).val))
      = h'.idx (Layout.meshBlock [2, 2, 4] ![[], [0]] c) i := by
  have h0 : (i 0).val < 32768 := (i 0).isLt
  have h1 : (i 1).val < 1024 := (i 1).isLt
  have hx := xc_lt c
  funext b; apply Fin.ext
  rcases b with ⟨_ | _ | n, hb⟩
  · show Layout.meshLin [2, 2, 4] (srcDev c (i 0).val).val [0] * 16384 + (i 0).val % 16384 % 16384 = 0 * 32768 + (i 0).val
    rw [meshLin_x, xc_srcDev c _ h0]; omega
  · show 0 * 2048 + (1024 * xc c + (i 1).val) % 2048 = Layout.meshLin [2, 2, 4] c.val [0] * 1024 + (i 1).val
    rw [meshLin_x]; omega
  · exact absurd hb (by simp)

/-- If every device's argument is its block of rows of the whole array, every device's result is its block of columns of
    the whole array rounded. -/
theorem outC_block (m : (ℓ : Loc nD τ sig) → Buf (Elt Ideal) ℓ) (X : FVec Ideal Cert.ReferenceIdeal.S32768x2048 .f32)
    (hm : ∀ c : Dev nD, m (xL c) = Layout.blockN ⟨2, ![16384, 2048]⟩ ⟨2, ![32768, 2048]⟩ (Layout.meshBlock [2, 2, 4] ![[0], []] c) X)
    (c : Dev nD) :
    outC m c = Layout.blockN ⟨2, ![32768, 1024]⟩ ⟨2, ![32768, 2048]⟩ (Layout.meshBlock [2, 2, 4] ![[], [0]] c)
      (truncf .bf16 X Cert.ReferenceIdeal.Gen.bitsLt_bf16_f32) := by
  funext i
  show rnd (xat m (srcDev c ((i : S32768x1024.Idx) 0).val) (((i : S32768x1024.Idx) 0).val % 16384) (1024 * xc c + ((i : S32768x1024.Idx) 1).val)) = _
  unfold xat
  rw [hm]
  exact congrArg (fun j => rnd (F := Ideal) (X j)) (place_eq c i (by decide) (by decide))

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs, leaves its argument and ends with every counter at zero. -/
theorem frame_kernel : Cert.quiescent_Kernel := fun m ρ _ =>
  (θ_run _ _ _).mono (fun _ h => ⟨fun c => (h.1 c).1, h.2⟩) (Cert.Kernel.Ring.run_main m ρ)

/-- So does the kernel over the extended reals; -/
theorem frame_kernelIdeal : Cert.quiescent_KernelIdeal := fun m ρ _ =>
  (θ_run _ _ _).mono (fun _ h => ⟨fun c => (h.1 c).1, h.2⟩) (Cert.KernelIdeal.Ring.run_main m ρ)

/-- and the reference, which has no counter at all. -/
theorem frame_referenceIdeal : Cert.quiescent_ReferenceIdeal := fun m ρ _ =>
  (θ_run _ _ _).mono (fun r h => ⟨fun c => (h c).2, sem_eq_zero_of_no_sems rfl r.2⟩) (Cert.ReferenceIdeal.Value.run m ρ)

/-- Every device's result is its block of the reference's. -/
theorem value : Cert.algebraic_KernelIdeal_ReferenceIdeal := fun m ρ m' ρ' _ hm =>
  ⟨_, (θ_run _ _ _).mono (fun _ h c => ⟨(h.1 c).2.trans (Cert.Value.outC_block m _ hm c), (h.1 c).1⟩) (Cert.KernelIdeal.Ring.run_main m ρ),
    (θ_run _ _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
